-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v11_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v13_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S4x1x16384 : Shape := ⟨3, ![4, 1, 16384]⟩
abbrev S4x1x8x256 : Shape := ⟨4, ![4, 1, 8, 256]⟩
abbrev S4x32768x8x256 : Shape := ⟨4, ![4, 32768, 8, 256]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S4x1x16384 .bf16) (main_arg1 : FVec F S4x1x8x256 .bf16) (main_arg2 : FVec F S4x1x8x256 .bf16) (main_arg3 : FVec F S4x32768x8x256 .fp8e4m3) (main_arg4 : FVec F S8 .f32) (main_arg5 : FVec F S4x32768x8x256 .fp8e4m3) (main_arg6 : FVec F S8 .f32) : IVec S_ 1 :=
  let main_cst : FVec F S_ .f32 := constant S_ .f32 0x00000000#32
  let main_v0 : FVec F S8 .f32 := broadcastInDim S8 ![] bcast_S_S8 main_cst
  let main_v1 : IVec S8 1 := cmpf .oge main_arg4 main_v0
  let main_cst_0 : FVec F S_ .f32 := constant S_ .f32 0x7F800000#32
  let main_v2 : FVec F S8 .f32 := broadcastInDim S8 ![] bcast_S_S8 main_cst_0
  let main_v3 : IVec S8 1 := cmpf .olt main_arg4 main_v2
  let main_v4 : IVec S8 1 := andi main_v1 main_v3
  let main_c : IVec S_ 1 := constantI S_ 1 1#1
  let main_v5 : IVec S_ 1 := (fun x v => Host.reduce IntOp.andi x v reducesTo_S8_S_d0 h_S_) main_v4 main_c
  let main_cst_1 : FVec F S_ .f32 := constant S_ .f32 0x00000000#32
  let main_v6 : FVec F S8 .f32 := broadcastInDim S8 ![] bcast_S_S8 main_cst_1
  let main_v7 : IVec S8 1 := cmpf .oge main_arg6 main_v6
  let main_cst_2 : FVec F S_ .f32 := constant S_ .f32 0x7F800000#32
  let main_v8 : FVec F S8 .f32 := broadcastInDim S8 ![] bcast_S_S8 main_cst_2
  let main_v9 : IVec S8 1 := cmpf .olt main_arg6 main_v8
  let main_v10 : IVec S8 1 := andi main_v7 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v5 main_v11
  main_v12
-- ==== Kernel.lean ====
abbrev S4x1x16384 : Shape := ⟨3, ![4, 1, 16384]⟩
abbrev S4x1x8x256 : Shape := ⟨4, ![4, 1, 8, 256]⟩
abbrev S4x32768x8x256 : Shape := ⟨4, ![4, 32768, 8, 256]⟩
abbrev S8 : Shape := ⟨1, ![8]⟩
abbrev S4x64x256 : Shape := ⟨3, ![4, 64, 256]⟩
abbrev S4x8x256 : Shape := ⟨3, ![4, 8, 256]⟩
abbrev S8x1 : Shape := ⟨2, ![8, 1]⟩
abbrev S4x32768x8x2x128 : Shape := ⟨5, ![4, 32768, 8, 2, 128]⟩
abbrev S4x32768x2x8x128 : Shape := ⟨5, ![4, 32768, 2, 8, 128]⟩
abbrev S4x524288x128 : Shape := ⟨3, ![4, 524288, 128]⟩
abbrev S1x64x256 : Shape := ⟨3, ![1, 64, 256]⟩
abbrev S1x8x256 : Shape := ⟨3, ![1, 8, 256]⟩
abbrev S1x8192x128 : Shape := ⟨3, ![1, 8192, 128]⟩
abbrev S64x1 : Shape := ⟨2, ![64, 1]⟩
abbrev S64x256 : Shape := ⟨2, ![64, 256]⟩
abbrev S64x8 : Shape := ⟨2, ![64, 8]⟩
abbrev S8x256 : Shape := ⟨2, ![8, 256]⟩
abbrev S64 : Shape := ⟨1, ![64]⟩
abbrev S8192x128 : Shape := ⟨2, ![8192, 128]⟩
abbrev S32x128 : Shape := ⟨2, ![32, 128]⟩
abbrev S32x2048 : Shape := ⟨2, ![32, 2048]⟩
abbrev S512x4x4x128 : Shape := ⟨4, ![512, 4, 4, 128]⟩
abbrev S512x1x4x128 : Shape := ⟨4, ![512, 1, 4, 128]⟩
abbrev S512x4x128 : Shape := ⟨3, ![512, 4, 128]⟩
abbrev S2048x128 : Shape := ⟨2, ![2048, 128]⟩
abbrev S2048x256 : Shape := ⟨2, ![2048, 256]⟩
abbrev S32x256 : Shape := ⟨2, ![32, 256]⟩
abbrev S32x1 : Shape := ⟨2, ![32, 1]⟩
abbrev S32 : Shape := ⟨1, ![32]⟩

abbrev nBuf : Space → Nat
  | .hbm => 21
  | .vmem => 23
  | .smem => 0
  | _ => 0

abbrev bufTy : (tb : Table) → Fin (tcTables nBuf tb) → BufTy
  | .hbm, ⟨0, _⟩ => ⟨S4x1x16384, .bf16⟩
  | .hbm, ⟨1, _⟩ => ⟨S4x1x8x256, .bf16⟩
  | .hbm, ⟨2, _⟩ => ⟨S4x1x8x256, .bf16⟩
  | .hbm, ⟨3, _⟩ => ⟨S4x32768x8x256, .fp8e4m3⟩
  | .hbm, ⟨4, _⟩ => ⟨S8, .f32⟩
  | .hbm, ⟨5, _⟩ => ⟨S4x32768x8x256, .fp8e4m3⟩
  | .hbm, ⟨6, _⟩ => ⟨S8, .f32⟩
  | .hbm, ⟨7, _⟩ => ⟨S4x64x256, .bf16⟩
  | .hbm, ⟨8, _⟩ => ⟨S4x8x256, .bf16⟩
  | .hbm, ⟨9, _⟩ => ⟨S4x8x256, .bf16⟩
  | .hbm, ⟨10, _⟩ => ⟨S8x1, .f32⟩
  | .hbm, ⟨11, _⟩ => ⟨S8x1, .f32⟩
  | .hbm, ⟨12, _⟩ => ⟨S4x32768x8x2x128, .fp8e4m3⟩
  | .hbm, ⟨13, _⟩ => ⟨S4x32768x2x8x128, .fp8e4m3⟩
  | .hbm, ⟨14, _⟩ => ⟨S4x524288x128, .fp8e4m3⟩
  | .hbm, ⟨15, _⟩ => ⟨S4x32768x8x2x128, .fp8e4m3⟩
  | .hbm, ⟨16, _⟩ => ⟨S4x32768x2x8x128, .fp8e4m3⟩
  | .hbm, ⟨17, _⟩ => ⟨S4x524288x128, .fp8e4m3⟩
  | .hbm, ⟨18, _⟩ => ⟨S4x64x256, .bf16⟩
  | .hbm, ⟨19, _⟩ => ⟨S4x8x256, .fp8e4m3⟩
  | .hbm, ⟨20, _⟩ => ⟨S4x8x256, .fp8e4m3⟩
  | .local _ .vmem, ⟨0, _⟩ => ⟨S1x64x256, .bf16⟩
  | .local _ .vmem, ⟨1, _⟩ => ⟨S1x64x256, .bf16⟩
  | .local _ .vmem, ⟨2, _⟩ => ⟨S1x8x256, .bf16⟩
  | .local _ .vmem, ⟨3, _⟩ => ⟨S1x8x256, .bf16⟩
  | .local _ .vmem, ⟨4, _⟩ => ⟨S1x8x256, .bf16⟩
  | .local _ .vmem, ⟨5, _⟩ => ⟨S1x8x256, .bf16⟩
  | .local _ .vmem, ⟨6, _⟩ => ⟨S8x1, .f32⟩
  | .local _ .vmem, ⟨7, _⟩ => ⟨S8x1, .f32⟩
  | .local _ .vmem, ⟨8, _⟩ => ⟨S1x8192x128, .fp8e4m3⟩
  | .local _ .vmem, ⟨9, _⟩ => ⟨S1x8192x128, .fp8e4m3⟩
  | .local _ .vmem, ⟨10, _⟩ => ⟨S1x8192x128, .fp8e4m3⟩
  | .local _ .vmem, ⟨11, _⟩ => ⟨S1x8192x128, .fp8e4m3⟩
  | .local _ .vmem, ⟨12, _⟩ => ⟨S1x64x256, .bf16⟩
  | .local _ .vmem, ⟨13, _⟩ => ⟨S1x64x256, .bf16⟩
  | .local _ .vmem, ⟨14, _⟩ => ⟨S1x8x256, .fp8e4m3⟩
  | .local _ .vmem, ⟨15, _⟩ => ⟨S1x8x256, .fp8e4m3⟩
  | .local _ .vmem, ⟨16, _⟩ => ⟨S1x8x256, .fp8e4m3⟩
  | .local _ .vmem, ⟨17, _⟩ => ⟨S1x8x256, .fp8e4m3⟩
  | .local _ .vmem, ⟨18, _⟩ => ⟨S64x1, .f32⟩
  | .local _ .vmem, ⟨19, _⟩ => ⟨S64x1, .f32⟩
  | .local _ .vmem, ⟨20, _⟩ => ⟨S64x256, .f32⟩
  | .local _ .vmem, ⟨21, _⟩ => ⟨S64x1, .f32⟩
  | .local _ .vmem, ⟨22, _⟩ => ⟨S64x1, .f32⟩
  | _, _ => ⟨S4x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v191 : BitVec 1 := Scalar.cmpi .eq arg1 c63_i32
  let v192 : BitVec 32 := Scalar.extui v191
  let c0_i32_66 : BitVec 32 := 0#32
  let v193 : BitVec 1 := Scalar.cmpi .ne v192 c0_i32_66
  v193

def k0_cond1 (i : grid0.Coords) : BitVec 1 :=
  let arg1 : BitVec 32 := BitVec.ofNat 32 (i 1).val
  let c0_i32_6 : BitVec 32 := 0#32
  let v29 : BitVec 1 := Scalar.cmpi .eq arg1 c0_i32_6
  let v30 : BitVec 32 := Scalar.extui v29
  let c0_i32_7 : BitVec 32 := 0#32
  let v31 : BitVec 1 := Scalar.cmpi .ne v30 c0_i32_7
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x1x16384 : Shape := ⟨3, ![4, 1, 16384]⟩
abbrev S4x1x8x256 : Shape := ⟨4, ![4, 1, 8, 256]⟩
abbrev S4x32768x8x256 : Shape := ⟨4, ![4, 32768, 8, 256]⟩
abbrev S8 : Shape := ⟨1, ![8]⟩
abbrev S32x8x256 : Shape := ⟨3, ![32, 8, 256]⟩
abbrev S4x8x1x256 : Shape := ⟨4, ![4, 8, 1, 256]⟩
abbrev S32x1x256 : Shape := ⟨3, ![32, 1, 256]⟩
abbrev S4x8 : Shape := ⟨2, ![4, 8]⟩
abbrev S32x1x1 : Shape := ⟨3, ![32, 1, 1]⟩
abbrev S4x8x32768x256 : Shape := ⟨4, ![4, 8, 32768, 256]⟩
abbrev S32x32768x256 : Shape := ⟨3, ![32, 32768, 256]⟩
abbrev S4x64x256 : Shape := ⟨3, ![4, 64, 256]⟩
abbrev S4x8x256 : Shape := ⟨3, ![4, 8, 256]⟩
abbrev S32x32769x256 : Shape := ⟨3, ![32, 32769, 256]⟩
abbrev S32x8x32769 : Shape := ⟨3, ![32, 8, 32769]⟩
abbrev S32x8 : Shape := ⟨2, ![32, 8]⟩
abbrev S32x8x1 : Shape := ⟨3, ![32, 8, 1]⟩

abbrev nBuf : Space → Nat
  | .hbm => 23
  | .vmem => 10
  | .smem => 0
  | _ => 0

abbrev bufTy : (tb : Table) → Fin (tcTables nBuf tb) → BufTy
  | .hbm, ⟨0, _⟩ => ⟨S4x1x16384, .bf16⟩
  | .hbm, ⟨1, _⟩ => ⟨S4x1x8x256, .bf16⟩
  | .hbm, ⟨2, _⟩ => ⟨S4x1x8x256, .bf16⟩
  | .hbm, ⟨3, _⟩ => ⟨S4x32768x8x256, .fp8e4m3⟩
  | .hbm, ⟨4, _⟩ => ⟨S8, .f32⟩
  | .hbm, ⟨5, _⟩ => ⟨S4x32768x8x256, .fp8e4m3⟩
  | .hbm, ⟨6, _⟩ => ⟨S8, .f32⟩
  | .hbm, ⟨7, _⟩ => ⟨S32x8x256, .bf16⟩
  | .hbm, ⟨8, _⟩ => ⟨S4x8x1x256, .bf16⟩
  | .hbm, ⟨9, _⟩ => ⟨S32x1x256, .bf16⟩
  | .hbm, ⟨10, _⟩ => ⟨S4x8x1x256, .bf16⟩
  | .hbm, ⟨11, _⟩ => ⟨S32x1x256, .bf16⟩
  | .hbm, ⟨12, _⟩ => ⟨S4x8, .f32⟩
  | .hbm, ⟨13, _⟩ => ⟨S32x1x1, .f32⟩
  | .hbm, ⟨14, _⟩ => ⟨S4x8, .f32⟩
  | .hbm, ⟨15, _⟩ => ⟨S32x1x1, .f32⟩
  | .hbm, ⟨16, _⟩ => ⟨S4x8x32768x256, .fp8e4m3⟩
  | .hbm, ⟨17, _⟩ => ⟨S32x32768x256, .fp8e4m3⟩
  | .hbm, ⟨18, _⟩ => ⟨S4x8x32768x256, .fp8e4m3⟩
  | .hbm, ⟨19, _⟩ => ⟨S32x32768x256, .fp8e4m3⟩
  | .hbm, ⟨20, _⟩ => ⟨S4x64x256, .bf16⟩
  | .hbm, ⟨21, _⟩ => ⟨S4x8x256, .fp8e4m3⟩
  | .hbm, ⟨22, _⟩ => ⟨S4x8x256, .fp8e4m3⟩
  | .local _ .vmem, ⟨0, _⟩ => ⟨S32x8x256, .bf16⟩
  | .local _ .vmem, ⟨1, _⟩ => ⟨S32x1x256, .bf16⟩
  | .local _ .vmem, ⟨2, _⟩ => ⟨S32x1x256, .bf16⟩
  | .local _ .vmem, ⟨3, _⟩ => ⟨S32x1x1, .f32⟩
  | .local _ .vmem, ⟨4, _⟩ => ⟨S32x1x1, .f32⟩
  | .local _ .vmem, ⟨5, _⟩ => ⟨S32x32768x256, .fp8e4m3⟩
  | .local _ .vmem, ⟨6, _⟩ => ⟨S32x32768x256, .fp8e4m3⟩
  | .local _ .vmem, ⟨7, _⟩ => ⟨S4x64x256, .bf16⟩
  | .local _ .vmem, ⟨8, _⟩ => ⟨S4x8x256, .fp8e4m3⟩
  | .local _ .vmem, ⟨9, _⟩ => ⟨S4x8x256, .fp8e4m3⟩
  | _, _ => ⟨S4x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x8x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32768x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32768x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BitsBase.lean ====
/-
  For the kernel on bit patterns, a separate program with the same text as its idealization.
  What the three runs of the kernel body share: its two branch conditions over the grid points, where the output
  windows are left alone, and the values the body computes from what it reads and what it carries.
-/
module

public import proofs.«01_k».proof.Proof.Gen.Kernel.Frame
public import proofs.«01_k».proof.Proof.Gen.Kernel.Skeleton
public import Idealize.ShloMosaic.Lib.Pipeline.TableIdle
public import Idealize.ShloMosaic.Lib.VecWindow

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 64) — by arithmetic of the point. -/
theorem hcond0_0 : ∀ t : Fin cfg0.N, cond0_0 (grid0.coords t) ↔ t.val % 64 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points ≡ 63 (mod 64) — by arithmetic of the point. -/
theorem hcond0_1 : ∀ t : Fin cfg0.N, cond0_1 (grid0.coords t) ↔ t.val % 64 = 63 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_1, k0_cond2, e0, e1]
    word_cmp
   : ∀ t : Fin grid0.N, cond0_1 (grid0.coords t) ↔ t.val % 64 = 63)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-- Output 8's buffer is fresh (nothing stored since the last write-back) exactly at the first point of a batch. -/
def freshTab0_8 : ℕ → Bool := fun n => decide (n % 64 = 0)
/-- The table of fresh points of output window 8 follows its recurrence from point to point. -/
theorem freshTab0_8_step : ∀ t : Fin cfg0.N,
    freshTab0_8 (t.val + 1) = ((cfg0.win 8).flush t || (cfg0.idle 8 (cfg0.grid.coords t) && freshTab0_8 t.val)) := by decide +kernel
/-- Output window 8 is fresh exactly at the points the table says. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- The first point of a batch stores output 8. -/
theorem liveAt0_8 : ∀ t : Fin cfg0.N, cond0_0 (grid0.coords t) → cfg0.idle 8 (grid0.coords t) = false := by decide +kernel
/-- Every other point leaves it alone. -/
theorem idleAt0_8 : ∀ t : Fin cfg0.N, ¬cond0_0 (grid0.coords t) → cfg0.idle 8 (grid0.coords t) = true := by decide +kernel
/-- It is not written back before the batch's last point. -/
theorem noFlush0_8 : ∀ t : Fin cfg0.N, ¬cond0_1 (grid0.coords t) → (cfg0.win 8).flush t = false := by decide +kernel
/-- It is written back at the batch's last point. -/
theorem flushAt0_8 : ∀ t : Fin cfg0.N, cond0_1 (grid0.coords t) → (cfg0.win 8).flush t = true := by decide +kernel
/-- After the first point of a batch its buffer is not fresh. -/
theorem notFresh0_8 (t : Fin cfg0.N) (h : ¬t.val % 64 = 0) : cfg0.fresh 8 t.val = false := by
  rw [fresh0_8_eq t]; exact decide_eq_false h

/-- Output 9's buffer is fresh (nothing stored since the last write-back) exactly at the first point of a batch. -/
def freshTab0_9 : ℕ → Bool := fun n => decide (n % 64 = 0)
/-- The table of fresh points of output window 9 follows its recurrence from point to point. -/
theorem freshTab0_9_step : ∀ t : Fin cfg0.N,
    freshTab0_9 (t.val + 1) = ((cfg0.win 9).flush t || (cfg0.idle 9 (cfg0.grid.coords t) && freshTab0_9 t.val)) := by decide +kernel
/-- Output window 9 is fresh exactly at the points the table says. -/
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- The first point of a batch stores output 9. -/
theorem liveAt0_9 : ∀ t : Fin cfg0.N, cond0_0 (grid0.coords t) → cfg0.idle 9 (grid0.coords t) = false := by decide +kernel
/-- Every other point leaves it alone. -/
theorem idleAt0_9 : ∀ t : Fin cfg0.N, ¬cond0_0 (grid0.coords t) → cfg0.idle 9 (grid0.coords t) = true := by decide +kernel
/-- It is not written back before the batch's last point. -/
theorem noFlush0_9 : ∀ t : Fin cfg0.N, ¬cond0_1 (grid0.coords t) → (cfg0.win 9).flush t = false := by decide +kernel
/-- It is written back at the batch's last point. -/
theorem flushAt0_9 : ∀ t : Fin cfg0.N, cond0_1 (grid0.coords t) → (cfg0.win 9).flush t = true := by decide +kernel
/-- After the first point of a batch its buffer is not fresh. -/
theorem notFresh0_9 (t : Fin cfg0.N) (h : ¬t.val % 64 = 0) : cfg0.fresh 9 t.val = false := by
  rw [fresh0_9_eq t]; exact decide_eq_false h

/-! ## The memrefs of a point -/

/-- Each window's current staging memref at point `t`, spelled as the pipeline passes it (`bodyAt0`), and its wholeness. -/
abbrev ms0_0 (t : Fin cfg0.N) : Memref sig .tc .vmem S1x64x256 .bf16 := win0_0.stage (cfg0.slots t 0)
/-- Window 0's staging buffer at a point is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x8x256 .bf16 := win0_1.stage (cfg0.slots t 1)
/-- Window 1's staging buffer at a point is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x8x256 .bf16 := win0_2.stage (cfg0.slots t 2)
/-- Window 2's staging buffer at a point is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S8x1 .f32 := win0_3.stage (cfg0.slots t 3)
/-- Window 3's staging buffer at a point is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S8x1 .f32 := win0_4.stage (cfg0.slots t 4)
/-- Window 4's staging buffer at a point is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x8192x128 .fp8e4m3 := win0_5.stage (cfg0.slots t 5)
/-- Window 5's staging buffer at a point is a whole buffer. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x8192x128 .fp8e4m3 := win0_6.stage (cfg0.slots t 6)
/-- Window 6's staging buffer at a point is a whole buffer. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x64x256 .bf16 := win0_7.stage (cfg0.slots t 7)
/-- Window 7's staging buffer at a point is a whole buffer. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S1x8x256 .fp8e4m3 := win0_8.stage (cfg0.slots t 8)
/-- Window 8's staging buffer at a point is a whole buffer. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x8x256 .fp8e4m3 := win0_9.stage (cfg0.slots t 9)
/-- Window 9's staging buffer at a point is a whole buffer. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S64x1 .f32 := Memref.whole cc0_scratch0
/-- Scratch buffer 1, whole. -/
abbrev scM0_1 : Memref sig .tc .vmem S64x1 .f32 := Memref.whole cc0_scratch1
/-- Scratch buffer 2, whole. -/
abbrev scM0_2 : Memref sig .tc .vmem S64x256 .f32 := Memref.whole cc0_scratch2
/-- Scratch buffer 3, whole. -/
abbrev scM0_3 : Memref sig .tc .vmem S64x1 .f32 := Memref.whole cc0_scratch3
/-- Scratch buffer 4, whole. -/
abbrev scM0_4 : Memref sig .tc .vmem S64x1 .f32 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The body's values -/

/-- What the body reads at one grid point: the query rows, the new key and value rows, the two scales and one block of each cache. -/
structure Blk (F : FTy → Type) [FloatOps F] where
  q : Vec F S1x64x256 .bf16
  kn : Vec F S1x8x256 .bf16
  vn : Vec F S1x8x256 .bf16
  ks : Vec F S8x1 .f32
  vs : Vec F S8x1 .f32
  k : Vec F S1x8192x128 .fp8e4m3
  v : Vec F S1x8192x128 .fp8e4m3

/-- What the body carries from point to point: running maximum, running denominator, accumulator, and the two scales per query row. -/
structure St (F : FTy → Type) [FloatOps F] where
  m : Vec F S64x1 .f32
  l : Vec F S64x1 .f32
  a : Vec F S64x256 .f32
  ks : Vec F S64x1 .f32
  vs : Vec F S64x1 .f32

/-- Rows 0 to 31 of a column. -/
def lo (x : Vec F S64x1 .f32) : Vec F S32x1 .f32 := VecWindow.window x ![0, 0] S32x1.size inb_S64x1_S32x1_0_0
/-- Rows 32 to 63 of a column. -/
def hi (x : Vec F S64x1 .f32) : Vec F S32x1 .f32 := VecWindow.window x ![32, 0] S32x1.size inb_S64x1_S32x1_32_0
/-- Rows 0 to 31 of the accumulator. -/
def loA (x : Vec F S64x256 .f32) : Vec F S32x256 .f32 := VecWindow.window x ![0, 0] S32x256.size inb_S64x256_S32x256_0_0
/-- Rows 32 to 63 of the accumulator. -/
def hiA (x : Vec F S64x256 .f32) : Vec F S32x256 .f32 := VecWindow.window x ![32, 0] S32x256.size inb_S64x256_S32x256_32_0
/-- `x` with rows 0 to 31 replaced by `a` and rows 32 to 63 by `b`. -/
def both (x : Vec F S64x1 .f32) (a b : Vec F S32x1 .f32) : Vec F S64x1 .f32 :=
  VecWindow.put (VecWindow.put x ![0, 0] S32x1.size a) ![32, 0] S32x1.size b
/-- The same for the accumulator. -/
def bothA (x : Vec F S64x256 .f32) (a b : Vec F S32x256 .f32) : Vec F S64x256 .f32 :=
  VecWindow.put (VecWindow.put x ![0, 0] S32x256.size a) ![32, 0] S32x256.size b

/-- The additive mask of the scores. -/
def bias : FVec F S32x2048 .f32 := k0_pay23 (F := F) (iota .tc S32x128 32 [1] iota_S32x128_d1_w32) 4#32 0#32

/-- The quantised new key rows. -/
def kcOf (b : Blk F) : Vec F S1x8x256 .fp8e4m3 := k0_pay9 b.ks b.kn
/-- The quantised new value rows. -/
def vcOf (b : Blk F) : Vec F S1x8x256 .fp8e4m3 := k0_pay10 b.vs b.vn

/-- The state a batch starts from: the new token alone. -/
def initS (b : Blk F) : St F where
  m := k0_pay13 (k0_pay19 b.q) k0_pay20 (k0_pay11 b.ks b.kn)
  l := k0_pay14
  a := k0_pay15 k0_pay20 (k0_pay12 b.vs b.vn)
  ks := k0_pay17 k0_pay20 (k0_pay5 b.ks)
  vs := k0_pay18 k0_pay20 (k0_pay6 b.vs)

/-- One block of the cache folded into the state: rows 0 to 31, then rows 32 to 63. -/
def stepS (b : Blk F) (s : St F) : St F where
  m := both s.m (k0_pay33 (k0_pay26 (k0_pay19 b.q) bias (k0_pay24 (k0_pay21 b.k)) (lo s.ks) (lo s.m)))
    (k0_pay3 (k0_pay36 (k0_pay19 b.q) (k0_pay21 b.k) bias (hi s.ks) (hi s.m)))
  l := both s.l (k0_pay29 (k0_pay19 b.q) bias (k0_pay24 (k0_pay21 b.k)) (lo s.ks) (lo s.m) (lo s.l))
    (k0_pay1 (k0_pay39 (k0_pay19 b.q) (k0_pay21 b.k) bias (hi s.ks) (hi s.m) (hi s.l)) (k0_pay40 (k0_pay19 b.q) (k0_pay21 b.k) bias (hi s.ks) (hi s.m)))
  a := bothA s.a (k0_pay32 (k0_pay30 (k0_pay19 b.q) (k0_pay22 b.v) bias (k0_pay24 (k0_pay21 b.k)) (lo s.ks) (lo s.m)) (k0_pay31 (k0_pay19 b.q) bias (k0_pay24 (k0_pay21 b.k)) (lo s.ks) (lo s.m) (loA s.a)) (lo s.vs))
    (k0_pay2 (k0_pay34 (k0_pay22 b.v)) (k0_pay37 (k0_pay19 b.q) (k0_pay21 b.k) bias (hi s.ks) (hi s.m)) (k0_pay38 (k0_pay19 b.q) (k0_pay21 b.k) bias (hi s.ks) (hi s.m)) (hiA s.a) (hi s.vs))
  ks := s.ks
  vs := s.vs

/-- The output rows: accumulator over denominator. -/
def finY (s : St F) : Vec F S1x64x256 .bf16 := k0_pay4 s.a s.l

end Cert.Kernel.Run

end
-- ==== Proof.BitsReads.lean ====
/- For the kernel on bit patterns, a separate program with the same text as its idealization. The body's loads and stores of its scratch buffers, as values: halves of 32 rows each. -/
module

public import proofs.«01_k».proof.Proof.BitsBase

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Loads and stores of the scratch buffers, read as values. -/

variable {κ : Kind} {sp : Space}

/-- A load of rows 0 to 31 of a column. -/
theorem readAt_lo (v : View sig κ sp S64x1 .f32) (f : v.ty.Contents (Elt F)) (h : ∀ a, ![0, 0] a + S32x1.size a ≤ S64x1.size a) :
    v.readAt (Elt F) (Rect.unit (s := S64x1) ![0, 0] ![32, 1] h).toLoadRect f = lo (v.read (Elt F) f) := View.readAt_unit v f h rfl _
/-- A load of rows 32 to 63 of a column. -/
theorem readAt_hi (v : View sig κ sp S64x1 .f32) (f : v.ty.Contents (Elt F)) (h : ∀ a, ![32, 0] a + S32x1.size a ≤ S64x1.size a) :
    v.readAt (Elt F) (Rect.unit (s := S64x1) ![32, 0] ![32, 1] h).toLoadRect f = hi (v.read (Elt F) f) := View.readAt_unit v f h rfl _
/-- A load of rows 0 to 31 of the accumulator. -/
theorem readAt_loA (v : View sig κ sp S64x256 .f32) (f : v.ty.Contents (Elt F)) (h : ∀ a, ![0, 0] a + S32x256.size a ≤ S64x256.size a) :
    v.readAt (Elt F) (Rect.unit (s := S64x256) ![0, 0] ![32, 256] h).toLoadRect f = loA (v.read (Elt F) f) := View.readAt_unit v f h rfl _
/-- A load of rows 32 to 63 of the accumulator. -/
theorem readAt_hiA (v : View sig κ sp S64x256 .f32) (f : v.ty.Contents (Elt F)) (h : ∀ a, ![32, 0] a + S32x256.size a ≤ S64x256.size a) :
    v.readAt (Elt F) (Rect.unit (s := S64x256) ![32, 0] ![32, 256] h).toLoadRect f = hiA (v.read (Elt F) f) := View.readAt_unit v f h rfl _

/-- A load that earlier stores cover is a load of those stores' contents. -/
theorem readCov_eq {s : Shape} {e : EltTy} (v : View sig κ sp s e) (L : List (View.Piece (Elt F) s e)) (r : LoadRect s) :
    v.readCov L r = v.readAt (Elt F) r (v.writes (Elt F) v.junk L) := rfl

/-- Rows 32 to 63 are untouched by a store to rows 0 to 31. -/
theorem hi_put_lo (x : Vec F S64x1 .f32) (a : Vec F S32x1 .f32) : hi (F := F) (VecWindow.put x ![0, 0] S32x1.size a) = hi x :=
  VecWindow.window_put_of_disjoint x ![0, 0] S32x1.size ![32, 0] S32x1.size inb_S64x1_S32x1_32_0 a 0 (by decide)
/-- The same for the accumulator. -/
theorem hiA_put_lo (x : Vec F S64x256 .f32) (a : Vec F S32x256 .f32) : hiA (F := F) (VecWindow.put x ![0, 0] S32x256.size a) = hiA x :=
  VecWindow.window_put_of_disjoint x ![0, 0] S32x256.size ![32, 0] S32x256.size inb_S64x256_S32x256_32_0 a 0 (by decide)

/-- Two stores, rows 0 to 31 and then rows 32 to 63 of a column, over what was there. -/
theorem read_both (v : View sig κ sp S64x1 .f32) (f : v.ty.Contents (Elt F)) (h1 : ∀ a, ![32, 0] a + S32x1.size a ≤ S64x1.size a)
    (h0 : ∀ a, ![0, 0] a + S32x1.size a ≤ S64x1.size a) (w1 w0 : Vec F S32x1 .f32) (L : List (View.Piece (Elt F) S64x1 .f32)) :
    v.read (Elt F) (v.writes (Elt F) f (⟨Rect.unit ![32, 0] ![32, 1] h1, w1⟩ :: ⟨Rect.unit ![0, 0] ![32, 1] h0, w0⟩ :: L))
      = both (v.read (Elt F) (v.writes (Elt F) f L)) w0 w1 :=
  (View.read_writes_cons_put v f h1 w1 _ rfl).trans (by rw [View.read_writes_cons_put v f h0 w0 _ rfl]; rfl)
/-- The same for the accumulator. -/
theorem read_bothA (v : View sig κ sp S64x256 .f32) (f : v.ty.Contents (Elt F)) (h1 : ∀ a, ![32, 0] a + S32x256.size a ≤ S64x256.size a)
    (h0 : ∀ a, ![0, 0] a + S32x256.size a ≤ S64x256.size a) (w1 w0 : Vec F S32x256 .f32) (L : List (View.Piece (Elt F) S64x256 .f32)) :
    v.read (Elt F) (v.writes (Elt F) f (⟨Rect.unit ![32, 0] ![32, 256] h1, w1⟩ :: ⟨Rect.unit ![0, 0] ![32, 256] h0, w0⟩ :: L))
      = bothA (v.read (Elt F) (v.writes (Elt F) f L)) w0 w1 :=
  (View.read_writes_cons_put v f h1 w1 _ rfl).trans (by rw [View.read_writes_cons_put v f h0 w0 _ rfl]; rfl)

/-- One store to rows 0 to 31 of a column, then a read of rows 32 to 63. -/
theorem hi_read_lo (v : View sig κ sp S64x1 .f32) (f : v.ty.Contents (Elt F))
    (h0 : ∀ a, ![0, 0] a + S32x1.size a ≤ S64x1.size a) (w0 : Vec F S32x1 .f32) (L : List (View.Piece (Elt F) S64x1 .f32)) :
    hi (v.read (Elt F) (v.writes (Elt F) f (⟨Rect.unit ![0, 0] ![32, 1] h0, w0⟩ :: L))) = hi (v.read (Elt F) (v.writes (Elt F) f L)) := by
  rw [View.read_writes_cons_put v f h0 w0 _ rfl, hi_put_lo]
/-- The same for the accumulator. -/
theorem hiA_read_lo (v : View sig κ sp S64x256 .f32) (f : v.ty.Contents (Elt F))
    (h0 : ∀ a, ![0, 0] a + S32x256.size a ≤ S64x256.size a) (w0 : Vec F S32x256 .f32) (L : List (View.Piece (Elt F) S64x256 .f32)) :
    hiA (v.read (Elt F) (v.writes (Elt F) f (⟨Rect.unit ![0, 0] ![32, 256] h0, w0⟩ :: L))) = hiA (v.read (Elt F) (v.writes (Elt F) f L)) := by
  rw [View.read_writes_cons_put v f h0 w0 _ rfl, hiA_put_lo]

/-- What `both` leaves depends on nothing that was there before. -/
theorem both_over (x y : Vec F S64x1 .f32) (a b : Vec F S32x1 .f32) : both x a b = both y a b := by
  funext j
  unfold both VecWindow.put
  by_cases h1 : ∀ k, ![32, 0] k ≤ (j k).val ∧ (j k).val < ![32, 0] k + S32x1.size k
  · rw [dif_pos h1, dif_pos h1]
  · rw [dif_neg h1, dif_neg h1]
    have h0 : ∀ k, ![0, 0] k ≤ (j k).val ∧ (j k).val < ![0, 0] k + S32x1.size k := by
      have e0 := (j 0).isLt; have e1 := (j 1).isLt
      simp only [Fin.forall_fin_two] at h1 ⊢
      simp at h1 e0 e1 ⊢
      omega
    rw [dif_pos h0, dif_pos h0]
/-- The same for the accumulator. -/
theorem bothA_over (x y : Vec F S64x256 .f32) (a b : Vec F S32x256 .f32) : bothA x a b = bothA y a b := by
  funext j
  unfold bothA VecWindow.put
  by_cases h1 : ∀ k, ![32, 0] k ≤ (j k).val ∧ (j k).val < ![32, 0] k + S32x256.size k
  · rw [dif_pos h1, dif_pos h1]
  · rw [dif_neg h1, dif_neg h1]
    have h0 : ∀ k, ![0, 0] k ≤ (j k).val ∧ (j k).val < ![0, 0] k + S32x256.size k := by
      have e0 := (j 0).isLt; have e1 := (j 1).isLt
      simp only [Fin.forall_fin_two] at h1 ⊢
      simp at h1 e0 e1 ⊢
      omega
    rw [dif_pos h0, dif_pos h0]

/-- A load of the whole of a buffer of this shape. -/
theorem readAt_S1x64x256 {e : EltTy} (v : View sig κ sp S1x64x256 e) (f : v.ty.Contents (Elt F)) (h : ∀ a, ![0, 0, 0] a + ![1, 64, 256] a ≤ S1x64x256.size a) :
    v.readAt (Elt F) (Rect.unit (s := S1x64x256) ![0, 0, 0] ![1, 64, 256] h).toLoadRect f = v.read (Elt F) f := View.readAt_full v f h
/-- A read after a store to the whole of it. -/
theorem read_writes_S1x64x256 {e : EltTy} (v : View sig κ sp S1x64x256 e) (f : v.ty.Contents (Elt F)) (h : ∀ a, ![0, 0, 0] a + ![1, 64, 256] a ≤ S1x64x256.size a)
    (w : S1x64x256.Idx → Elt F e) (L : List (View.Piece (Elt F) S1x64x256 e)) :
    v.read (Elt F) (v.writes (Elt F) f (⟨Rect.unit (s := S1x64x256) ![0, 0, 0] ![1, 64, 256] h, w⟩ :: L)) = w := View.read_writes_full v f h w L

/-- A load of the whole of a buffer of this shape. -/
theorem readAt_S1x8x256 {e : EltTy} (v : View sig κ sp S1x8x256 e) (f : v.ty.Contents (Elt F)) (h : ∀ a, ![0, 0, 0] a + ![1, 8, 256] a ≤ S1x8x256.size a) :
    v.readAt (Elt F) (Rect.unit (s := S1x8x256) ![0, 0, 0] ![1, 8, 256] h).toLoadRect f = v.read (Elt F) f := View.readAt_full v f h
/-- A read after a store to the whole of it. -/
theorem read_writes_S1x8x256 {e : EltTy} (v : View sig κ sp S1x8x256 e) (f : v.ty.Contents (Elt F)) (h : ∀ a, ![0, 0, 0] a + ![1, 8, 256] a ≤ S1x8x256.size a)
    (w : S1x8x256.Idx → Elt F e) (L : List (View.Piece (Elt F) S1x8x256 e)) :
    v.read (Elt F) (v.writes (Elt F) f (⟨Rect.unit (s := S1x8x256) ![0, 0, 0] ![1, 8, 256] h, w⟩ :: L)) = w := View.read_writes_full v f h w L

/-- A load of the whole of a buffer of this shape. -/
theorem readAt_S8x1 {e : EltTy} (v : View sig κ sp S8x1 e) (f : v.ty.Contents (Elt F)) (h : ∀ a, ![0, 0] a + ![8, 1] a ≤ S8x1.size a) :
    v.readAt (Elt F) (Rect.unit (s := S8x1) ![0, 0] ![8, 1] h).toLoadRect f = v.read (Elt F) f := View.readAt_full v f h
/-- A read after a store to the whole of it. -/
theorem read_writes_S8x1 {e : EltTy} (v : View sig κ sp S8x1 e) (f : v.ty.Contents (Elt F)) (h : ∀ a, ![0, 0] a + ![8, 1] a ≤ S8x1.size a)
    (w : S8x1.Idx → Elt F e) (L : List (View.Piece (Elt F) S8x1 e)) :
    v.read (Elt F) (v.writes (Elt F) f (⟨Rect.unit (s := S8x1) ![0, 0] ![8, 1] h, w⟩ :: L)) = w := View.read_writes_full v f h w L

/-- A load of the whole of a buffer of this shape. -/
theorem readAt_S1x8192x128 {e : EltTy} (v : View sig κ sp S1x8192x128 e) (f : v.ty.Contents (Elt F)) (h : ∀ a, ![0, 0, 0] a + ![1, 8192, 128] a ≤ S1x8192x128.size a) :
    v.readAt (Elt F) (Rect.unit (s := S1x8192x128) ![0, 0, 0] ![1, 8192, 128] h).toLoadRect f = v.read (Elt F) f := View.readAt_full v f h
/-- A read after a store to the whole of it. -/
theorem read_writes_S1x8192x128 {e : EltTy} (v : View sig κ sp S1x8192x128 e) (f : v.ty.Contents (Elt F)) (h : ∀ a, ![0, 0, 0] a + ![1, 8192, 128] a ≤ S1x8192x128.size a)
    (w : S1x8192x128.Idx → Elt F e) (L : List (View.Piece (Elt F) S1x8192x128 e)) :
    v.read (Elt F) (v.writes (Elt F) f (⟨Rect.unit (s := S1x8192x128) ![0, 0, 0] ![1, 8192, 128] h, w⟩ :: L)) = w := View.read_writes_full v f h w L

/-- A load of the whole of a buffer of this shape. -/
theorem readAt_S64x1 {e : EltTy} (v : View sig κ sp S64x1 e) (f : v.ty.Contents (Elt F)) (h : ∀ a, ![0, 0] a + ![64, 1] a ≤ S64x1.size a) :
    v.readAt (Elt F) (Rect.unit (s := S64x1) ![0, 0] ![64, 1] h).toLoadRect f = v.read (Elt F) f := View.readAt_full v f h
/-- A read after a store to the whole of it. -/
theorem read_writes_S64x1 {e : EltTy} (v : View sig κ sp S64x1 e) (f : v.ty.Contents (Elt F)) (h : ∀ a, ![0, 0] a + ![64, 1] a ≤ S64x1.size a)
    (w : S64x1.Idx → Elt F e) (L : List (View.Piece (Elt F) S64x1 e)) :
    v.read (Elt F) (v.writes (Elt F) f (⟨Rect.unit (s := S64x1) ![0, 0] ![64, 1] h, w⟩ :: L)) = w := View.read_writes_full v f h w L

/-- A load of the whole of a buffer of this shape. -/
theorem readAt_S64x256 {e : EltTy} (v : View sig κ sp S64x256 e) (f : v.ty.Contents (Elt F)) (h : ∀ a, ![0, 0] a + ![64, 256] a ≤ S64x256.size a) :
    v.readAt (Elt F) (Rect.unit (s := S64x256) ![0, 0] ![64, 256] h).toLoadRect f = v.read (Elt F) f := View.readAt_full v f h
/-- A read after a store to the whole of it. -/
theorem read_writes_S64x256 {e : EltTy} (v : View sig κ sp S64x256 e) (f : v.ty.Contents (Elt F)) (h : ∀ a, ![0, 0] a + ![64, 256] a ≤ S64x256.size a)
    (w : S64x256.Idx → Elt F e) (L : List (View.Piece (Elt F) S64x256 e)) :
    v.read (Elt F) (v.writes (Elt F) f (⟨Rect.unit (s := S64x256) ![0, 0] ![64, 256] h, w⟩ :: L)) = w := View.read_writes_full v f h w L

end Cert.Kernel.Run

end
-- ==== Proof.BitsRunA.lean ====
/- For the kernel on bit patterns, a separate program with the same text as its idealization. The body at the first point of a batch, run from end to end. -/
module

public import proofs.«01_k».proof.Proof.BitsReads

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a batch: it stores the quantised new rows, sets the carried state to the new token's and folds the first cache block into it. -/
theorem run_A (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : cond0_0 i) (hc1 : ¬cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (xi7 : Vec F S1x64x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (kcOf ⟨x0, x1, x2, x3, x4, x5, x6⟩) ∗ owns (c : Thread nD τ) arg11 fullShare (vcOf ⟨x0, x1, x2, x3, x4, x5, x6⟩) ∗ owns (c : Thread nD τ) arg12 fullShare (stepS ⟨x0, x1, x2, x3, x4, x5, x6⟩ (initS ⟨x0, x1, x2, x3, x4, x5, x6⟩)).m ∗ owns (c : Thread nD τ) arg13 fullShare (stepS ⟨x0, x1, x2, x3, x4, x5, x6⟩ (initS ⟨x0, x1, x2, x3, x4, x5, x6⟩)).l ∗ owns (c : Thread nD τ) arg14 fullShare (stepS ⟨x0, x1, x2, x3, x4, x5, x6⟩ (initS ⟨x0, x1, x2, x3, x4, x5, x6⟩)).a ∗ owns (c : Thread nD τ) arg15 fullShare (stepS ⟨x0, x1, x2, x3, x4, x5, x6⟩ (initS ⟨x0, x1, x2, x3, x4, x5, x6⟩)).ks ∗ owns (c : Thread nD τ) arg16 fullShare (stepS ⟨x0, x1, x2, x3, x4, x5, x6⟩ (initS ⟨x0, x1, x2, x3, x4, x5, x6⟩)).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part1_eq_skeleton, k0_part2_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [H9]
  · iexists _; isplitr
    swap; · iexact H9
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  iexists _; isplitr
  swap; · iexact HS4
  ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl

end Cert.Kernel.Run

end
-- ==== Proof.BitsRunB.lean ====
/- For the kernel on bit patterns, a separate program with the same text as its idealization. The body at a middle point of a batch, run from end to end. -/
module

public import proofs.«01_k».proof.Proof.BitsReads

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point of a batch: it folds one cache block into the carried state and stores nothing else. -/
theorem run_B (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : ¬cond0_0 i) (hc1 : ¬cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (s : St F) (xi7 : Vec F S1x64x256 .bf16) (xi8 xi9 : Vec F S1x8x256 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ owns (c : Thread nD τ) arg12 fullShare s.m ∗ owns (c : Thread nD τ) arg13 fullShare s.l ∗ owns (c : Thread nD τ) arg14 fullShare s.a ∗ owns (c : Thread nD τ) arg15 fullShare s.ks ∗ owns (c : Thread nD τ) arg16 fullShare s.vs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ owns (c : Thread nD τ) arg12 fullShare (stepS ⟨x0, x1, x2, x3, x4, x5, x6⟩ s).m ∗ owns (c : Thread nD τ) arg13 fullShare (stepS ⟨x0, x1, x2, x3, x4, x5, x6⟩ s).l ∗ owns (c : Thread nD τ) arg14 fullShare (stepS ⟨x0, x1, x2, x3, x4, x5, x6⟩ s).a ∗ owns (c : Thread nD τ) arg15 fullShare (stepS ⟨x0, x1, x2, x3, x4, x5, x6⟩ s).ks ∗ owns (c : Thread nD τ) arg16 fullShare (stepS ⟨x0, x1, x2, x3, x4, x5, x6⟩ s).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; exact harg15.read_unread _
  iexists _; isplitr
  swap; · iexact HS4
  ipureintro; exact harg16.read_unread _

end Cert.Kernel.Run

end
-- ==== Proof.BitsRunC.lean ====
/- For the kernel on bit patterns, a separate program with the same text as its idealization. The body at the last point of a batch, run from end to end. -/
module

public import proofs.«01_k».proof.Proof.BitsReads

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a batch: it folds the last cache block into the carried state and stores the output rows. -/
theorem run_C (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : ¬cond0_0 i) (hc1 : cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (s : St F) (xi8 xi9 : Vec F S1x8x256 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare s.m ∗ owns (c : Thread nD τ) arg13 fullShare s.l ∗ owns (c : Thread nD τ) arg14 fullShare s.a ∗ owns (c : Thread nD τ) arg15 fullShare s.ks ∗ owns (c : Thread nD τ) arg16 fullShare s.vs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (finY (stepS ⟨x0, x1, x2, x3, x4, x5, x6⟩ s)) ∗ owns (c : Thread nD τ) arg10 fullShare xi8 ∗ owns (c : Thread nD τ) arg11 fullShare xi9 ∗ owns (c : Thread nD τ) arg12 fullShare (stepS ⟨x0, x1, x2, x3, x4, x5, x6⟩ s).m ∗ owns (c : Thread nD τ) arg13 fullShare (stepS ⟨x0, x1, x2, x3, x4, x5, x6⟩ s).l ∗ owns (c : Thread nD τ) arg14 fullShare (stepS ⟨x0, x1, x2, x3, x4, x5, x6⟩ s).a ∗ owns (c : Thread nD τ) arg15 fullShare (stepS ⟨x0, x1, x2, x3, x4, x5, x6⟩ s).ks ∗ owns (c : Thread nD τ) arg16 fullShare (stepS ⟨x0, x1, x2, x3, x4, x5, x6⟩ s).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; exact congrArg₂ k0_pay4 (bothA_over _ s.a _ _) (both_over _ s.l _ _)
  isplitl [H8]
  · iexists _; isplitr
    swap; · iexact H8
    ipureintro; exact harg10.read_unread _
  isplitl [H9]
  · iexists _; isplitr
    swap; · iexact H9
    ipureintro; exact harg11.read_unread _
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; exact harg15.read_unread _
  iexists _; isplitr
  swap; · iexact HS4
  ipureintro; exact harg16.read_unread _

end Cert.Kernel.Run

end
-- ==== Proof.BitsFrame.lean ====
/- For the kernel on bit patterns, a separate program with the same text as its idealization. The pipeline's proof data: what each buffer holds after each grid point, the body at a generic point, and the frame of the whole run. -/
module

public import proofs.«01_k».proof.Proof.BitsRunA
public import proofs.«01_k».proof.Proof.BitsRunB
public import proofs.«01_k».proof.Proof.BitsRunC
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at point `t`: the windows' blocks of the arrays as the pipeline finds them. -/
def blk (c : Dev nD) (t : Fin cfg0.N) : Blk F :=
  ⟨iblk m c 0 t, iblk m c 1 t, iblk m c 2 t, iblk m c 3 t, iblk m c 4 t, iblk m c 5 t, iblk m c 6 t⟩

/-- The same by the point's number. -/
def blkN (c : Dev nD) (n : ℕ) : Blk F := blk m c ⟨n % 256, lt_of_lt_of_eq (Nat.mod_lt _ (by decide)) N_0.symm⟩

/-- At a point of the grid, reading by number is reading by point. -/
theorem blkN_eq (c : Dev nD) (t : Fin cfg0.N) : blkN m c t.val = blk m c t := by
  have hN : t.val < 256 := lt_of_lt_of_eq t.isLt N_0
  unfold blkN; exact congrArg (blk m c) (Fin.ext (Nat.mod_eq_of_lt hN))

/-- The state carried out of point `n`: started anew at the first point of each batch. -/
def sAt (c : Dev nD) : ℕ → St F
  | 0 => stepS (blkN m c 0) (initS (blkN m c 0))
  | n + 1 => if (n + 1) % 64 = 0 then stepS (blkN m c (n + 1)) (initS (blkN m c (n + 1))) else stepS (blkN m c (n + 1)) (sAt c n)

/-- At the first point of a batch. -/
theorem sAt_first (c : Dev nD) (n : ℕ) (h : n % 64 = 0) : sAt m c n = stepS (blkN m c n) (initS (blkN m c n)) := by
  cases n with
  | zero => rfl
  | succ n => exact if_pos h

/-- At any other point. -/
theorem sAt_next (c : Dev nD) (n : ℕ) (h : ¬n % 64 = 0) : sAt m c n = stepS (blkN m c n) (sAt m c (n - 1)) := by
  cases n with
  | zero => exact absurd rfl h
  | succ n => exact if_neg h

/-- The carried scratch and the generator's register between points: at anything before the first, at `sAt` after point `n`. -/
def PhiS (c : Dev nD) : ℕ → sProp 𝕄
  | 0 => Pipeline.ΦA spec0 c
  | n + 1 => iprop(iprop(owns (c : Thread nD τ) scM0_0 fullShare (sAt m c n).m ∗ owns (c : Thread nD τ) scM0_1 fullShare (sAt m c n).l ∗ owns (c : Thread nD τ) scM0_2 fullShare (sAt m c n).a ∗ owns (c : Thread nD τ) scM0_3 fullShare (sAt m c n).ks ∗ owns (c : Thread nD τ) scM0_4 fullShare (sAt m c n).vs) ∗ (∃ r, prngReg c r))

/-- Between points, the scratch buffers hold the state folded through the point before. -/
theorem PhiS_succ (c : Dev nD) (n : ℕ) : PhiS m c (n + 1) = iprop(iprop(owns (c : Thread nD τ) scM0_0 fullShare (sAt m c n).m ∗ owns (c : Thread nD τ) scM0_1 fullShare (sAt m c n).l ∗ owns (c : Thread nD τ) scM0_2 fullShare (sAt m c n).a ∗ owns (c : Thread nD τ) scM0_3 fullShare (sAt m c n).ks ∗ owns (c : Thread nD τ) scM0_4 fullShare (sAt m c n).vs) ∗ (∃ r, prngReg c r)) := rfl
/-- The same, at a point that is not the first. -/
theorem PhiS_pos (c : Dev nD) (n : ℕ) (h : n ≠ 0) : PhiS m c n = iprop(iprop(owns (c : Thread nD τ) scM0_0 fullShare (sAt m c (n - 1)).m ∗ owns (c : Thread nD τ) scM0_1 fullShare (sAt m c (n - 1)).l ∗ owns (c : Thread nD τ) scM0_2 fullShare (sAt m c (n - 1)).a ∗ owns (c : Thread nD τ) scM0_3 fullShare (sAt m c (n - 1)).ks ∗ owns (c : Thread nD τ) scM0_4 fullShare (sAt m c (n - 1)).vs) ∗ (∃ r, prngReg c r)) := by
  obtain ⟨k, rfl⟩ := Nat.exists_eq_succ_of_ne_zero h; rfl

/-- The pipeline's proof data on core `c`: each input's buffer stays at its block; the output rows at the quotient of the state;
    the code buffers at the codes of the batch's new rows; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => finY (sAt m c t.val)
    | ⟨8, _⟩ => kcOf (blkN m c (t.val / 64 * 64))
    | ⟨9, _⟩ => vcOf (blkN m c (t.val / 64 * 64))
  Φ t := PhiS m c t.val
  q _ := fullShare
  owed _ := 0

/-- The arrays the proof data starts from are those the pipeline finds. -/
theorem A_eq (c : Dev nD) (w : Fin cfg0.W) : (dats m 0 c).A w = V m c (Pipeline.arrRef spec0 w) := by
  dsimp only [dats]

/-- What the proof data says of the scratch before a point, by the point's number. -/
theorem PhiS_castSucc (c : Dev nD) (t : Fin cfg0.N) : (dats m 0 c).Φ t.castSucc = PhiS m c t.val := by
  dsimp only [dats]; rfl

/-- After a point, input window 0 still holds its block. -/
theorem after0_0 (c : Dev nD) (t : Fin cfg0.N) : (dats m 0 c).after 0 t = iblk m c 0 t := by dsimp only [dats]
/-- After a point, input window 1 still holds its block. -/
theorem after0_1 (c : Dev nD) (t : Fin cfg0.N) : (dats m 0 c).after 1 t = iblk m c 1 t := by dsimp only [dats]
/-- After a point, input window 2 still holds its block. -/
theorem after0_2 (c : Dev nD) (t : Fin cfg0.N) : (dats m 0 c).after 2 t = iblk m c 2 t := by dsimp only [dats]
/-- After a point, input window 3 still holds its block. -/
theorem after0_3 (c : Dev nD) (t : Fin cfg0.N) : (dats m 0 c).after 3 t = iblk m c 3 t := by dsimp only [dats]
/-- After a point, input window 4 still holds its block. -/
theorem after0_4 (c : Dev nD) (t : Fin cfg0.N) : (dats m 0 c).after 4 t = iblk m c 4 t := by dsimp only [dats]
/-- After a point, input window 5 still holds its block. -/
theorem after0_5 (c : Dev nD) (t : Fin cfg0.N) : (dats m 0 c).after 5 t = iblk m c 5 t := by dsimp only [dats]
/-- After a point, input window 6 still holds its block. -/
theorem after0_6 (c : Dev nD) (t : Fin cfg0.N) : (dats m 0 c).after 6 t = iblk m c 6 t := by dsimp only [dats]
/-- After a point, the staged attention rows are the quotient of the state there. -/
theorem after0_7 (c : Dev nD) (t : Fin cfg0.N) : (dats m 0 c).after 7 t = finY (sAt m c t.val) := by dsimp only [dats]
/-- After a point, the staged key codes are those of the batch's first point. -/
theorem after0_8 (c : Dev nD) (t : Fin cfg0.N) : (dats m 0 c).after 8 t = kcOf (blkN m c (t.val / 64 * 64)) := by dsimp only [dats]
/-- After a point, the staged value codes are those of the batch's first point. -/
theorem after0_9 (c : Dev nD) (t : Fin cfg0.N) : (dats m 0 c).after 9 t = vcOf (blkN m c (t.val / 64 * 64)) := by dsimp only [dats]
/-- Before a point, input window 0 holds its block. -/
theorem before0_0 (c : Dev nD) (t : Fin cfg0.N) (d) : (dats m 0 c).before 0 t d = iblk m c 0 t :=
  before0_0_of m (dats m 0 c) (A_eq m c 0) (after0_0 m c) t d
/-- Before a point, input window 1 holds its block. -/
theorem before0_1 (c : Dev nD) (t : Fin cfg0.N) (d) : (dats m 0 c).before 1 t d = iblk m c 1 t :=
  before0_1_of m (dats m 0 c) (A_eq m c 1) (after0_1 m c) t d
/-- Before a point, input window 2 holds its block. -/
theorem before0_2 (c : Dev nD) (t : Fin cfg0.N) (d) : (dats m 0 c).before 2 t d = iblk m c 2 t :=
  before0_2_of m (dats m 0 c) (A_eq m c 2) (after0_2 m c) t d
/-- Before a point, input window 3 holds its block. -/
theorem before0_3 (c : Dev nD) (t : Fin cfg0.N) (d) : (dats m 0 c).before 3 t d = iblk m c 3 t :=
  before0_3_of m (dats m 0 c) (A_eq m c 3) (after0_3 m c) t d
/-- Before a point, input window 4 holds its block. -/
theorem before0_4 (c : Dev nD) (t : Fin cfg0.N) (d) : (dats m 0 c).before 4 t d = iblk m c 4 t :=
  before0_4_of m (dats m 0 c) (A_eq m c 4) (after0_4 m c) t d
/-- Before a point, input window 5 holds its block. -/
theorem before0_5 (c : Dev nD) (t : Fin cfg0.N) (d) : (dats m 0 c).before 5 t d = iblk m c 5 t :=
  before0_5_of m (dats m 0 c) (A_eq m c 5) (after0_5 m c) t d
/-- Before a point, input window 6 holds its block. -/
theorem before0_6 (c : Dev nD) (t : Fin cfg0.N) (d) : (dats m 0 c).before 6 t d = iblk m c 6 t :=
  before0_6_of m (dats m 0 c) (A_eq m c 6) (after0_6 m c) t d

/-- Inside a batch output 8's contents do not change. -/
theorem carry0_8 (c : Dev nD) (t : Fin cfg0.N) (h : ¬t.val % 64 = 0) : (dats m 0 c).after 8 t = (dats m 0 c).after 8 ⟨t.val - 1, by omega⟩ := by
  rw [after0_8, after0_8]
  rw [show (t.val - 1) / 64 * 64 = t.val / 64 * 64 from by omega]
/-- At a point that does not start a batch output 8's buffer already holds the batch's codes. -/
theorem before0_8 (c : Dev nD) (t : Fin cfg0.N) (h : ¬t.val % 64 = 0) (d) : (dats m 0 c).before 8 t d = (dats m 0 c).after 8 t := by
  rw [Dat.before_out_traj _ 8 rfl (fun _ _ => rfl) (fun t _ hi _ => carry0_8 m c t (fun h0 => by
      rw [liveAt0_8 t ((hcond0_0 t).mpr h0)] at hi; exact absurd hi Bool.false_ne_true)) t.val t rfl d,
    if_neg (by rw [notFresh0_8 t h]; exact Bool.false_ne_true), carry0_8 m c t h]

/-- Inside a batch output 9's contents do not change. -/
theorem carry0_9 (c : Dev nD) (t : Fin cfg0.N) (h : ¬t.val % 64 = 0) : (dats m 0 c).after 9 t = (dats m 0 c).after 9 ⟨t.val - 1, by omega⟩ := by
  rw [after0_9, after0_9]
  rw [show (t.val - 1) / 64 * 64 = t.val / 64 * 64 from by omega]
/-- At a point that does not start a batch output 9's buffer already holds the batch's codes. -/
theorem before0_9 (c : Dev nD) (t : Fin cfg0.N) (h : ¬t.val % 64 = 0) (d) : (dats m 0 c).before 9 t d = (dats m 0 c).after 9 t := by
  rw [Dat.before_out_traj _ 9 rfl (fun _ _ => rfl) (fun t _ hi _ => carry0_9 m c t (fun h0 => by
      rw [liveAt0_9 t ((hcond0_0 t).mpr h0)] at hi; exact absurd hi Bool.false_ne_true)) t.val t rfl d,
    if_neg (by rw [notFresh0_9 t h]; exact Bool.false_ne_true), carry0_9 m c t h]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: which of the three cases it is in, that case's run, and what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 64 = 0
  · have h1 : ¬t.val % 64 = 63 := by omega
    have hs : sAt m c t.val = stepS (blk m c t) (initS (blk m c t)) := by rw [sAt_first m c _ h0, blkN_eq]
    have hk : blkN m c (t.val / 64 * 64) = blk m c t := by rw [show t.val / 64 * 64 = t.val from by omega, blkN_eq]
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [show (dats m 0 c).leavesExact 8 t = owns (c : Thread nD τ) (ms0_8 t) fullShare ((dats m 0 c).after 8 t) from by
      unfold Dat.leavesExact; rw [liveAt0_8 t ((hcond0_0 t).mpr h0)], after0_8]
    rw [show (dats m 0 c).leavesExact 9 t = owns (c : Thread nD τ) (ms0_9 t) fullShare ((dats m 0 c).after 9 t) from by
      unfold Dat.leavesExact; rw [liveAt0_9 t ((hcond0_0 t).mpr h0)], after0_9]
    rw [hk]
    by_cases hz : t.val = 0
    · rw [PhiS_castSucc m c t, hz, show PhiS m c 0 = Pipeline.ΦA spec0 c from rfl, PhiA0_eq]
      rw [hz] at hs
      iintro ⟨⟨⟨⟨%ds0, HS0⟩, ⟨%ds1, HS1⟩, ⟨%ds2, HS2⟩, ⟨%ds3, HS3⟩, ⟨%ds4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      iexact H9
    · rw [PhiS_castSucc m c t, PhiS_pos m c _ hz]
      skip
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      iexact H9
  · have hz : t.val ≠ 0 := fun h => h0 (by rw [h])
    have hs : sAt m c t.val = stepS (blk m c t) (sAt m c (t.val - 1)) := by rw [sAt_next m c _ h0, blkN_eq]
    simp only [before0_8 m c t h0, before0_9 m c t h0]
    by_cases h1 : t.val % 64 = 63
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [idleAt0_8 t (fun h => h0 ((hcond0_0 t).mp h)), flushAt0_8 t ((hcond0_1 t).mpr h1)]]
      rw [show (dats m 0 c).leavesExact 9 t = owns (c : Thread nD τ) (ms0_9 t) fullShare ((dats m 0 c).after 9 t) from by
        unfold Dat.leavesExact; rw [idleAt0_9 t (fun h => h0 ((hcond0_0 t).mp h)), flushAt0_9 t ((hcond0_1 t).mpr h1)]]
      rw [hs]
      rw [PhiS_castSucc m c t, PhiS_pos m c _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (sAt m c (t.val - 1)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8 t (fun h => h0 ((hcond0_0 t).mp h))) (noFlush0_8 t (fun h => h1 ((hcond0_1 t).mp h)))]
      rw [Dat.leavesExact_idle (dats m 0 c) 9 t (idleAt0_9 t (fun h => h0 ((hcond0_0 t).mp h))) (noFlush0_9 t (fun h => h1 ((hcond0_1 t).mp h)))]
      simp only [before0_8 m c t h0, before0_9 m c t h0]
      rw [PhiS_castSucc m c t, PhiS_pos m c _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (sAt m c (t.val - 1)) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexists d8; iexact H8
      iexists d9; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: from any launch, every fair execution ends, with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.KernelBase.lean ====
/-
  What the three runs of the kernel body share: its two branch conditions over the grid points, where the output
  windows are left alone, and the values the body computes from what it reads and what it carries.
-/
module

public import proofs.«01_k».proof.Proof.Gen.KernelIdeal.Frame
public import proofs.«01_k».proof.Proof.Gen.KernelIdeal.Skeleton
public import Idealize.ShloMosaic.Lib.Pipeline.TableIdle
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 64) — by arithmetic of the point. -/
theorem hcond0_0 : ∀ t : Fin cfg0.N, cond0_0 (grid0.coords t) ↔ t.val % 64 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points ≡ 63 (mod 64) — by arithmetic of the point. -/
theorem hcond0_1 : ∀ t : Fin cfg0.N, cond0_1 (grid0.coords t) ↔ t.val % 64 = 63 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_1, k0_cond2, e0, e1]
    word_cmp
   : ∀ t : Fin grid0.N, cond0_1 (grid0.coords t) ↔ t.val % 64 = 63)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-- Output 8's buffer is fresh (nothing stored since the last write-back) exactly at the first point of a batch. -/
def freshTab0_8 : ℕ → Bool := fun n => decide (n % 64 = 0)
/-- The table of fresh points of output window 8 follows its recurrence from point to point. -/
theorem freshTab0_8_step : ∀ t : Fin cfg0.N,
    freshTab0_8 (t.val + 1) = ((cfg0.win 8).flush t || (cfg0.idle 8 (cfg0.grid.coords t) && freshTab0_8 t.val)) := by decide +kernel
/-- Output window 8 is fresh exactly at the points the table says. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- The first point of a batch stores output 8. -/
theorem liveAt0_8 : ∀ t : Fin cfg0.N, cond0_0 (grid0.coords t) → cfg0.idle 8 (grid0.coords t) = false := by decide +kernel
/-- Every other point leaves it alone. -/
theorem idleAt0_8 : ∀ t : Fin cfg0.N, ¬cond0_0 (grid0.coords t) → cfg0.idle 8 (grid0.coords t) = true := by decide +kernel
/-- It is not written back before the batch's last point. -/
theorem noFlush0_8 : ∀ t : Fin cfg0.N, ¬cond0_1 (grid0.coords t) → (cfg0.win 8).flush t = false := by decide +kernel
/-- It is written back at the batch's last point. -/
theorem flushAt0_8 : ∀ t : Fin cfg0.N, cond0_1 (grid0.coords t) → (cfg0.win 8).flush t = true := by decide +kernel
/-- After the first point of a batch its buffer is not fresh. -/
theorem notFresh0_8 (t : Fin cfg0.N) (h : ¬t.val % 64 = 0) : cfg0.fresh 8 t.val = false := by
  rw [fresh0_8_eq t]; exact decide_eq_false h

/-- Output 9's buffer is fresh (nothing stored since the last write-back) exactly at the first point of a batch. -/
def freshTab0_9 : ℕ → Bool := fun n => decide (n % 64 = 0)
/-- The table of fresh points of output window 9 follows its recurrence from point to point. -/
theorem freshTab0_9_step : ∀ t : Fin cfg0.N,
    freshTab0_9 (t.val + 1) = ((cfg0.win 9).flush t || (cfg0.idle 9 (cfg0.grid.coords t) && freshTab0_9 t.val)) := by decide +kernel
/-- Output window 9 is fresh exactly at the points the table says. -/
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- The first point of a batch stores output 9. -/
theorem liveAt0_9 : ∀ t : Fin cfg0.N, cond0_0 (grid0.coords t) → cfg0.idle 9 (grid0.coords t) = false := by decide +kernel
/-- Every other point leaves it alone. -/
theorem idleAt0_9 : ∀ t : Fin cfg0.N, ¬cond0_0 (grid0.coords t) → cfg0.idle 9 (grid0.coords t) = true := by decide +kernel
/-- It is not written back before the batch's last point. -/
theorem noFlush0_9 : ∀ t : Fin cfg0.N, ¬cond0_1 (grid0.coords t) → (cfg0.win 9).flush t = false := by decide +kernel
/-- It is written back at the batch's last point. -/
theorem flushAt0_9 : ∀ t : Fin cfg0.N, cond0_1 (grid0.coords t) → (cfg0.win 9).flush t = true := by decide +kernel
/-- After the first point of a batch its buffer is not fresh. -/
theorem notFresh0_9 (t : Fin cfg0.N) (h : ¬t.val % 64 = 0) : cfg0.fresh 9 t.val = false := by
  rw [fresh0_9_eq t]; exact decide_eq_false h

/-! ## The memrefs of a point -/

/-- Each window's current staging memref at point `t`, spelled as the pipeline passes it (`bodyAt0`), and its wholeness. -/
abbrev ms0_0 (t : Fin cfg0.N) : Memref sig .tc .vmem S1x64x256 .bf16 := win0_0.stage (cfg0.slots t 0)
/-- Window 0's staging buffer at a point is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x8x256 .bf16 := win0_1.stage (cfg0.slots t 1)
/-- Window 1's staging buffer at a point is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x8x256 .bf16 := win0_2.stage (cfg0.slots t 2)
/-- Window 2's staging buffer at a point is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S8x1 .f32 := win0_3.stage (cfg0.slots t 3)
/-- Window 3's staging buffer at a point is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S8x1 .f32 := win0_4.stage (cfg0.slots t 4)
/-- Window 4's staging buffer at a point is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x8192x128 .fp8e4m3 := win0_5.stage (cfg0.slots t 5)
/-- Window 5's staging buffer at a point is a whole buffer. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x8192x128 .fp8e4m3 := win0_6.stage (cfg0.slots t 6)
/-- Window 6's staging buffer at a point is a whole buffer. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x64x256 .bf16 := win0_7.stage (cfg0.slots t 7)
/-- Window 7's staging buffer at a point is a whole buffer. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S1x8x256 .fp8e4m3 := win0_8.stage (cfg0.slots t 8)
/-- Window 8's staging buffer at a point is a whole buffer. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x8x256 .fp8e4m3 := win0_9.stage (cfg0.slots t 9)
/-- Window 9's staging buffer at a point is a whole buffer. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S64x1 .f32 := Memref.whole cc0_scratch0
/-- Scratch buffer 1, whole. -/
abbrev scM0_1 : Memref sig .tc .vmem S64x1 .f32 := Memref.whole cc0_scratch1
/-- Scratch buffer 2, whole. -/
abbrev scM0_2 : Memref sig .tc .vmem S64x256 .f32 := Memref.whole cc0_scratch2
/-- Scratch buffer 3, whole. -/
abbrev scM0_3 : Memref sig .tc .vmem S64x1 .f32 := Memref.whole cc0_scratch3
/-- Scratch buffer 4, whole. -/
abbrev scM0_4 : Memref sig .tc .vmem S64x1 .f32 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The body's values -/

/-- What the body reads at one grid point: the query rows, the new key and value rows, the two scales and one block of each cache. -/
structure Blk (F : FTy → Type) [FloatOps F] where
  q : Vec F S1x64x256 .bf16
  kn : Vec F S1x8x256 .bf16
  vn : Vec F S1x8x256 .bf16
  ks : Vec F S8x1 .f32
  vs : Vec F S8x1 .f32
  k : Vec F S1x8192x128 .fp8e4m3
  v : Vec F S1x8192x128 .fp8e4m3

/-- What the body carries from point to point: running maximum, running denominator, accumulator, and the two scales per query row. -/
structure St (F : FTy → Type) [FloatOps F] where
  m : Vec F S64x1 .f32
  l : Vec F S64x1 .f32
  a : Vec F S64x256 .f32
  ks : Vec F S64x1 .f32
  vs : Vec F S64x1 .f32

/-- Rows 0 to 31 of a column. -/
def lo (x : Vec F S64x1 .f32) : Vec F S32x1 .f32 := VecWindow.window x ![0, 0] S32x1.size inb_S64x1_S32x1_0_0
/-- Rows 32 to 63 of a column. -/
def hi (x : Vec F S64x1 .f32) : Vec F S32x1 .f32 := VecWindow.window x ![32, 0] S32x1.size inb_S64x1_S32x1_32_0
/-- Rows 0 to 31 of the accumulator. -/
def loA (x : Vec F S64x256 .f32) : Vec F S32x256 .f32 := VecWindow.window x ![0, 0] S32x256.size inb_S64x256_S32x256_0_0
/-- Rows 32 to 63 of the accumulator. -/
def hiA (x : Vec F S64x256 .f32) : Vec F S32x256 .f32 := VecWindow.window x ![32, 0] S32x256.size inb_S64x256_S32x256_32_0
/-- `x` with rows 0 to 31 replaced by `a` and rows 32 to 63 by `b`. -/
def both (x : Vec F S64x1 .f32) (a b : Vec F S32x1 .f32) : Vec F S64x1 .f32 :=
  VecWindow.put (VecWindow.put x ![0, 0] S32x1.size a) ![32, 0] S32x1.size b
/-- The same for the accumulator. -/
def bothA (x : Vec F S64x256 .f32) (a b : Vec F S32x256 .f32) : Vec F S64x256 .f32 :=
  VecWindow.put (VecWindow.put x ![0, 0] S32x256.size a) ![32, 0] S32x256.size b

/-- The additive mask of the scores. -/
def bias : FVec F S32x2048 .f32 := k0_pay23 (F := F) (iota .tc S32x128 32 [1] iota_S32x128_d1_w32) 4#32 0#32

/-- The quantised new key rows. -/
def kcOf (b : Blk F) : Vec F S1x8x256 .fp8e4m3 := k0_pay9 b.ks b.kn
/-- The quantised new value rows. -/
def vcOf (b : Blk F) : Vec F S1x8x256 .fp8e4m3 := k0_pay10 b.vs b.vn

/-- The state a batch starts from: the new token alone. -/
def initS (b : Blk F) : St F where
  m := k0_pay13 (k0_pay19 b.q) k0_pay20 (k0_pay11 b.ks b.kn)
  l := k0_pay14
  a := k0_pay15 k0_pay20 (k0_pay12 b.vs b.vn)
  ks := k0_pay17 k0_pay20 (k0_pay5 b.ks)
  vs := k0_pay18 k0_pay20 (k0_pay6 b.vs)

/-- One block of the cache folded into the state: rows 0 to 31, then rows 32 to 63. -/
def stepS (b : Blk F) (s : St F) : St F where
  m := both s.m (k0_pay33 (k0_pay26 (k0_pay19 b.q) bias (k0_pay24 (k0_pay21 b.k)) (lo s.ks) (lo s.m)))
    (k0_pay3 (k0_pay36 (k0_pay19 b.q) (k0_pay21 b.k) bias (hi s.ks) (hi s.m)))
  l := both s.l (k0_pay29 (k0_pay19 b.q) bias (k0_pay24 (k0_pay21 b.k)) (lo s.ks) (lo s.m) (lo s.l))
    (k0_pay1 (k0_pay39 (k0_pay19 b.q) (k0_pay21 b.k) bias (hi s.ks) (hi s.m) (hi s.l)) (k0_pay40 (k0_pay19 b.q) (k0_pay21 b.k) bias (hi s.ks) (hi s.m)))
  a := bothA s.a (k0_pay32 (k0_pay30 (k0_pay19 b.q) (k0_pay22 b.v) bias (k0_pay24 (k0_pay21 b.k)) (lo s.ks) (lo s.m)) (k0_pay31 (k0_pay19 b.q) bias (k0_pay24 (k0_pay21 b.k)) (lo s.ks) (lo s.m) (loA s.a)) (lo s.vs))
    (k0_pay2 (k0_pay34 (k0_pay22 b.v)) (k0_pay37 (k0_pay19 b.q) (k0_pay21 b.k) bias (hi s.ks) (hi s.m)) (k0_pay38 (k0_pay19 b.q) (k0_pay21 b.k) bias (hi s.ks) (hi s.m)) (hiA s.a) (hi s.vs))
  ks := s.ks
  vs := s.vs

/-- The output rows: accumulator over denominator. -/
def finY (s : St F) : Vec F S1x64x256 .bf16 := k0_pay4 s.a s.l

end Cert.KernelIdeal.Run

end
-- ==== Proof.KernelReads.lean ====
/- The body's loads and stores of its scratch buffers, as values: halves of 32 rows each. -/
module

public import proofs.«01_k».proof.Proof.KernelBase

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Loads and stores of the scratch buffers, read as values. -/

variable {κ : Kind} {sp : Space}

/-- A load of rows 0 to 31 of a column. -/
theorem readAt_lo (v : View sig κ sp S64x1 .f32) (f : v.ty.Contents (Elt F)) (h : ∀ a, ![0, 0] a + S32x1.size a ≤ S64x1.size a) :
    v.readAt (Elt F) (Rect.unit (s := S64x1) ![0, 0] ![32, 1] h).toLoadRect f = lo (v.read (Elt F) f) := View.readAt_unit v f h rfl _
/-- A load of rows 32 to 63 of a column. -/
theorem readAt_hi (v : View sig κ sp S64x1 .f32) (f : v.ty.Contents (Elt F)) (h : ∀ a, ![32, 0] a + S32x1.size a ≤ S64x1.size a) :
    v.readAt (Elt F) (Rect.unit (s := S64x1) ![32, 0] ![32, 1] h).toLoadRect f = hi (v.read (Elt F) f) := View.readAt_unit v f h rfl _
/-- A load of rows 0 to 31 of the accumulator. -/
theorem readAt_loA (v : View sig κ sp S64x256 .f32) (f : v.ty.Contents (Elt F)) (h : ∀ a, ![0, 0] a + S32x256.size a ≤ S64x256.size a) :
    v.readAt (Elt F) (Rect.unit (s := S64x256) ![0, 0] ![32, 256] h).toLoadRect f = loA (v.read (Elt F) f) := View.readAt_unit v f h rfl _
/-- A load of rows 32 to 63 of the accumulator. -/
theorem readAt_hiA (v : View sig κ sp S64x256 .f32) (f : v.ty.Contents (Elt F)) (h : ∀ a, ![32, 0] a + S32x256.size a ≤ S64x256.size a) :
    v.readAt (Elt F) (Rect.unit (s := S64x256) ![32, 0] ![32, 256] h).toLoadRect f = hiA (v.read (Elt F) f) := View.readAt_unit v f h rfl _

/-- A load that earlier stores cover is a load of those stores' contents. -/
theorem readCov_eq {s : Shape} {e : EltTy} (v : View sig κ sp s e) (L : List (View.Piece (Elt F) s e)) (r : LoadRect s) :
    v.readCov L r = v.readAt (Elt F) r (v.writes (Elt F) v.junk L) := rfl

/-- Rows 32 to 63 are untouched by a store to rows 0 to 31. -/
theorem hi_put_lo (x : Vec F S64x1 .f32) (a : Vec F S32x1 .f32) : hi (F := F) (VecWindow.put x ![0, 0] S32x1.size a) = hi x :=
  VecWindow.window_put_of_disjoint x ![0, 0] S32x1.size ![32, 0] S32x1.size inb_S64x1_S32x1_32_0 a 0 (by decide)
/-- The same for the accumulator. -/
theorem hiA_put_lo (x : Vec F S64x256 .f32) (a : Vec F S32x256 .f32) : hiA (F := F) (VecWindow.put x ![0, 0] S32x256.size a) = hiA x :=
  VecWindow.window_put_of_disjoint x ![0, 0] S32x256.size ![32, 0] S32x256.size inb_S64x256_S32x256_32_0 a 0 (by decide)

/-- Two stores, rows 0 to 31 and then rows 32 to 63 of a column, over what was there. -/
theorem read_both (v : View sig κ sp S64x1 .f32) (f : v.ty.Contents (Elt F)) (h1 : ∀ a, ![32, 0] a + S32x1.size a ≤ S64x1.size a)
    (h0 : ∀ a, ![0, 0] a + S32x1.size a ≤ S64x1.size a) (w1 w0 : Vec F S32x1 .f32) (L : List (View.Piece (Elt F) S64x1 .f32)) :
    v.read (Elt F) (v.writes (Elt F) f (⟨Rect.unit ![32, 0] ![32, 1] h1, w1⟩ :: ⟨Rect.unit ![0, 0] ![32, 1] h0, w0⟩ :: L))
      = both (v.read (Elt F) (v.writes (Elt F) f L)) w0 w1 :=
  (View.read_writes_cons_put v f h1 w1 _ rfl).trans (by rw [View.read_writes_cons_put v f h0 w0 _ rfl]; rfl)
/-- The same for the accumulator. -/
theorem read_bothA (v : View sig κ sp S64x256 .f32) (f : v.ty.Contents (Elt F)) (h1 : ∀ a, ![32, 0] a + S32x256.size a ≤ S64x256.size a)
    (h0 : ∀ a, ![0, 0] a + S32x256.size a ≤ S64x256.size a) (w1 w0 : Vec F S32x256 .f32) (L : List (View.Piece (Elt F) S64x256 .f32)) :
    v.read (Elt F) (v.writes (Elt F) f (⟨Rect.unit ![32, 0] ![32, 256] h1, w1⟩ :: ⟨Rect.unit ![0, 0] ![32, 256] h0, w0⟩ :: L))
      = bothA (v.read (Elt F) (v.writes (Elt F) f L)) w0 w1 :=
  (View.read_writes_cons_put v f h1 w1 _ rfl).trans (by rw [View.read_writes_cons_put v f h0 w0 _ rfl]; rfl)

/-- One store to rows 0 to 31 of a column, then a read of rows 32 to 63. -/
theorem hi_read_lo (v : View sig κ sp S64x1 .f32) (f : v.ty.Contents (Elt F))
    (h0 : ∀ a, ![0, 0] a + S32x1.size a ≤ S64x1.size a) (w0 : Vec F S32x1 .f32) (L : List (View.Piece (Elt F) S64x1 .f32)) :
    hi (v.read (Elt F) (v.writes (Elt F) f (⟨Rect.unit ![0, 0] ![32, 1] h0, w0⟩ :: L))) = hi (v.read (Elt F) (v.writes (Elt F) f L)) := by
  rw [View.read_writes_cons_put v f h0 w0 _ rfl, hi_put_lo]
/-- The same for the accumulator. -/
theorem hiA_read_lo (v : View sig κ sp S64x256 .f32) (f : v.ty.Contents (Elt F))
    (h0 : ∀ a, ![0, 0] a + S32x256.size a ≤ S64x256.size a) (w0 : Vec F S32x256 .f32) (L : List (View.Piece (Elt F) S64x256 .f32)) :
    hiA (v.read (Elt F) (v.writes (Elt F) f (⟨Rect.unit ![0, 0] ![32, 256] h0, w0⟩ :: L))) = hiA (v.read (Elt F) (v.writes (Elt F) f L)) := by
  rw [View.read_writes_cons_put v f h0 w0 _ rfl, hiA_put_lo]

/-- What `both` leaves depends on nothing that was there before. -/
theorem both_over (x y : Vec F S64x1 .f32) (a b : Vec F S32x1 .f32) : both x a b = both y a b := by
  funext j
  unfold both VecWindow.put
  by_cases h1 : ∀ k, ![32, 0] k ≤ (j k).val ∧ (j k).val < ![32, 0] k + S32x1.size k
  · rw [dif_pos h1, dif_pos h1]
  · rw [dif_neg h1, dif_neg h1]
    have h0 : ∀ k, ![0, 0] k ≤ (j k).val ∧ (j k).val < ![0, 0] k + S32x1.size k := by
      have e0 := (j 0).isLt; have e1 := (j 1).isLt
      simp only [Fin.forall_fin_two] at h1 ⊢
      simp at h1 e0 e1 ⊢
      omega
    rw [dif_pos h0, dif_pos h0]
/-- The same for the accumulator. -/
theorem bothA_over (x y : Vec F S64x256 .f32) (a b : Vec F S32x256 .f32) : bothA x a b = bothA y a b := by
  funext j
  unfold bothA VecWindow.put
  by_cases h1 : ∀ k, ![32, 0] k ≤ (j k).val ∧ (j k).val < ![32, 0] k + S32x256.size k
  · rw [dif_pos h1, dif_pos h1]
  · rw [dif_neg h1, dif_neg h1]
    have h0 : ∀ k, ![0, 0] k ≤ (j k).val ∧ (j k).val < ![0, 0] k + S32x256.size k := by
      have e0 := (j 0).isLt; have e1 := (j 1).isLt
      simp only [Fin.forall_fin_two] at h1 ⊢
      simp at h1 e0 e1 ⊢
      omega
    rw [dif_pos h0, dif_pos h0]

/-- A load of the whole of a buffer of this shape. -/
theorem readAt_S1x64x256 {e : EltTy} (v : View sig κ sp S1x64x256 e) (f : v.ty.Contents (Elt F)) (h : ∀ a, ![0, 0, 0] a + ![1, 64, 256] a ≤ S1x64x256.size a) :
    v.readAt (Elt F) (Rect.unit (s := S1x64x256) ![0, 0, 0] ![1, 64, 256] h).toLoadRect f = v.read (Elt F) f := View.readAt_full v f h
/-- A read after a store to the whole of it. -/
theorem read_writes_S1x64x256 {e : EltTy} (v : View sig κ sp S1x64x256 e) (f : v.ty.Contents (Elt F)) (h : ∀ a, ![0, 0, 0] a + ![1, 64, 256] a ≤ S1x64x256.size a)
    (w : S1x64x256.Idx → Elt F e) (L : List (View.Piece (Elt F) S1x64x256 e)) :
    v.read (Elt F) (v.writes (Elt F) f (⟨Rect.unit (s := S1x64x256) ![0, 0, 0] ![1, 64, 256] h, w⟩ :: L)) = w := View.read_writes_full v f h w L

/-- A load of the whole of a buffer of this shape. -/
theorem readAt_S1x8x256 {e : EltTy} (v : View sig κ sp S1x8x256 e) (f : v.ty.Contents (Elt F)) (h : ∀ a, ![0, 0, 0] a + ![1, 8, 256] a ≤ S1x8x256.size a) :
    v.readAt (Elt F) (Rect.unit (s := S1x8x256) ![0, 0, 0] ![1, 8, 256] h).toLoadRect f = v.read (Elt F) f := View.readAt_full v f h
/-- A read after a store to the whole of it. -/
theorem read_writes_S1x8x256 {e : EltTy} (v : View sig κ sp S1x8x256 e) (f : v.ty.Contents (Elt F)) (h : ∀ a, ![0, 0, 0] a + ![1, 8, 256] a ≤ S1x8x256.size a)
    (w : S1x8x256.Idx → Elt F e) (L : List (View.Piece (Elt F) S1x8x256 e)) :
    v.read (Elt F) (v.writes (Elt F) f (⟨Rect.unit (s := S1x8x256) ![0, 0, 0] ![1, 8, 256] h, w⟩ :: L)) = w := View.read_writes_full v f h w L

/-- A load of the whole of a buffer of this shape. -/
theorem readAt_S8x1 {e : EltTy} (v : View sig κ sp S8x1 e) (f : v.ty.Contents (Elt F)) (h : ∀ a, ![0, 0] a + ![8, 1] a ≤ S8x1.size a) :
    v.readAt (Elt F) (Rect.unit (s := S8x1) ![0, 0] ![8, 1] h).toLoadRect f = v.read (Elt F) f := View.readAt_full v f h
/-- A read after a store to the whole of it. -/
theorem read_writes_S8x1 {e : EltTy} (v : View sig κ sp S8x1 e) (f : v.ty.Contents (Elt F)) (h : ∀ a, ![0, 0] a + ![8, 1] a ≤ S8x1.size a)
    (w : S8x1.Idx → Elt F e) (L : List (View.Piece (Elt F) S8x1 e)) :
    v.read (Elt F) (v.writes (Elt F) f (⟨Rect.unit (s := S8x1) ![0, 0] ![8, 1] h, w⟩ :: L)) = w := View.read_writes_full v f h w L

/-- A load of the whole of a buffer of this shape. -/
theorem readAt_S1x8192x128 {e : EltTy} (v : View sig κ sp S1x8192x128 e) (f : v.ty.Contents (Elt F)) (h : ∀ a, ![0, 0, 0] a + ![1, 8192, 128] a ≤ S1x8192x128.size a) :
    v.readAt (Elt F) (Rect.unit (s := S1x8192x128) ![0, 0, 0] ![1, 8192, 128] h).toLoadRect f = v.read (Elt F) f := View.readAt_full v f h
/-- A read after a store to the whole of it. -/
theorem read_writes_S1x8192x128 {e : EltTy} (v : View sig κ sp S1x8192x128 e) (f : v.ty.Contents (Elt F)) (h : ∀ a, ![0, 0, 0] a + ![1, 8192, 128] a ≤ S1x8192x128.size a)
    (w : S1x8192x128.Idx → Elt F e) (L : List (View.Piece (Elt F) S1x8192x128 e)) :
    v.read (Elt F) (v.writes (Elt F) f (⟨Rect.unit (s := S1x8192x128) ![0, 0, 0] ![1, 8192, 128] h, w⟩ :: L)) = w := View.read_writes_full v f h w L

/-- A load of the whole of a buffer of this shape. -/
theorem readAt_S64x1 {e : EltTy} (v : View sig κ sp S64x1 e) (f : v.ty.Contents (Elt F)) (h : ∀ a, ![0, 0] a + ![64, 1] a ≤ S64x1.size a) :
    v.readAt (Elt F) (Rect.unit (s := S64x1) ![0, 0] ![64, 1] h).toLoadRect f = v.read (Elt F) f := View.readAt_full v f h
/-- A read after a store to the whole of it. -/
theorem read_writes_S64x1 {e : EltTy} (v : View sig κ sp S64x1 e) (f : v.ty.Contents (Elt F)) (h : ∀ a, ![0, 0] a + ![64, 1] a ≤ S64x1.size a)
    (w : S64x1.Idx → Elt F e) (L : List (View.Piece (Elt F) S64x1 e)) :
    v.read (Elt F) (v.writes (Elt F) f (⟨Rect.unit (s := S64x1) ![0, 0] ![64, 1] h, w⟩ :: L)) = w := View.read_writes_full v f h w L

/-- A load of the whole of a buffer of this shape. -/
theorem readAt_S64x256 {e : EltTy} (v : View sig κ sp S64x256 e) (f : v.ty.Contents (Elt F)) (h : ∀ a, ![0, 0] a + ![64, 256] a ≤ S64x256.size a) :
    v.readAt (Elt F) (Rect.unit (s := S64x256) ![0, 0] ![64, 256] h).toLoadRect f = v.read (Elt F) f := View.readAt_full v f h
/-- A read after a store to the whole of it. -/
theorem read_writes_S64x256 {e : EltTy} (v : View sig κ sp S64x256 e) (f : v.ty.Contents (Elt F)) (h : ∀ a, ![0, 0] a + ![64, 256] a ≤ S64x256.size a)
    (w : S64x256.Idx → Elt F e) (L : List (View.Piece (Elt F) S64x256 e)) :
    v.read (Elt F) (v.writes (Elt F) f (⟨Rect.unit (s := S64x256) ![0, 0] ![64, 256] h, w⟩ :: L)) = w := View.read_writes_full v f h w L

end Cert.KernelIdeal.Run

end
-- ==== Proof.KernelRunA.lean ====
/- The body at the first point of a batch, run from end to end. -/
module

public import proofs.«01_k».proof.Proof.KernelReads

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a batch: it stores the quantised new rows, sets the carried state to the new token's and folds the first cache block into it. -/
theorem run_A (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : cond0_0 i) (hc1 : ¬cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (xi7 : Vec F S1x64x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (kcOf ⟨x0, x1, x2, x3, x4, x5, x6⟩) ∗ owns (c : Thread nD τ) arg11 fullShare (vcOf ⟨x0, x1, x2, x3, x4, x5, x6⟩) ∗ owns (c : Thread nD τ) arg12 fullShare (stepS ⟨x0, x1, x2, x3, x4, x5, x6⟩ (initS ⟨x0, x1, x2, x3, x4, x5, x6⟩)).m ∗ owns (c : Thread nD τ) arg13 fullShare (stepS ⟨x0, x1, x2, x3, x4, x5, x6⟩ (initS ⟨x0, x1, x2, x3, x4, x5, x6⟩)).l ∗ owns (c : Thread nD τ) arg14 fullShare (stepS ⟨x0, x1, x2, x3, x4, x5, x6⟩ (initS ⟨x0, x1, x2, x3, x4, x5, x6⟩)).a ∗ owns (c : Thread nD τ) arg15 fullShare (stepS ⟨x0, x1, x2, x3, x4, x5, x6⟩ (initS ⟨x0, x1, x2, x3, x4, x5, x6⟩)).ks ∗ owns (c : Thread nD τ) arg16 fullShare (stepS ⟨x0, x1, x2, x3, x4, x5, x6⟩ (initS ⟨x0, x1, x2, x3, x4, x5, x6⟩)).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part1_eq_skeleton, k0_part2_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [H9]
  · iexists _; isplitr
    swap; · iexact H9
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  iexists _; isplitr
  swap; · iexact HS4
  ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl

end Cert.KernelIdeal.Run

end
-- ==== Proof.KernelRunB.lean ====
/- The body at a middle point of a batch, run from end to end. -/
module

public import proofs.«01_k».proof.Proof.KernelReads

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point of a batch: it folds one cache block into the carried state and stores nothing else. -/
theorem run_B (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : ¬cond0_0 i) (hc1 : ¬cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (s : St F) (xi7 : Vec F S1x64x256 .bf16) (xi8 xi9 : Vec F S1x8x256 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ owns (c : Thread nD τ) arg12 fullShare s.m ∗ owns (c : Thread nD τ) arg13 fullShare s.l ∗ owns (c : Thread nD τ) arg14 fullShare s.a ∗ owns (c : Thread nD τ) arg15 fullShare s.ks ∗ owns (c : Thread nD τ) arg16 fullShare s.vs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ owns (c : Thread nD τ) arg12 fullShare (stepS ⟨x0, x1, x2, x3, x4, x5, x6⟩ s).m ∗ owns (c : Thread nD τ) arg13 fullShare (stepS ⟨x0, x1, x2, x3, x4, x5, x6⟩ s).l ∗ owns (c : Thread nD τ) arg14 fullShare (stepS ⟨x0, x1, x2, x3, x4, x5, x6⟩ s).a ∗ owns (c : Thread nD τ) arg15 fullShare (stepS ⟨x0, x1, x2, x3, x4, x5, x6⟩ s).ks ∗ owns (c : Thread nD τ) arg16 fullShare (stepS ⟨x0, x1, x2, x3, x4, x5, x6⟩ s).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; exact harg15.read_unread _
  iexists _; isplitr
  swap; · iexact HS4
  ipureintro; exact harg16.read_unread _

end Cert.KernelIdeal.Run

end
-- ==== Proof.KernelRunC.lean ====
/- The body at the last point of a batch, run from end to end. -/
module

public import proofs.«01_k».proof.Proof.KernelReads

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a batch: it folds the last cache block into the carried state and stores the output rows. -/
theorem run_C (c : Dev nD) (i : grid0.Coords) (arg2 : Memref sig .tc .vmem S1x64x256 .bf16) (harg2 : arg2.IsWhole) (arg3 : Memref sig .tc .vmem S1x8x256 .bf16) (harg3 : arg3.IsWhole) (arg4 : Memref sig .tc .vmem S1x8x256 .bf16) (harg4 : arg4.IsWhole) (arg5 : Memref sig .tc .vmem S8x1 .f32) (harg5 : arg5.IsWhole) (arg6 : Memref sig .tc .vmem S8x1 .f32) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x64x256 .bf16) (harg9 : arg9.IsWhole) (arg10 : Memref sig .tc .vmem S1x8x256 .fp8e4m3) (harg10 : arg10.IsWhole) (arg11 : Memref sig .tc .vmem S1x8x256 .fp8e4m3) (harg11 : arg11.IsWhole) (arg12 : Memref sig .tc .vmem S64x1 .f32) (harg12 : arg12.IsWhole) (arg13 : Memref sig .tc .vmem S64x1 .f32) (harg13 : arg13.IsWhole) (arg14 : Memref sig .tc .vmem S64x256 .f32) (harg14 : arg14.IsWhole) (arg15 : Memref sig .tc .vmem S64x1 .f32) (harg15 : arg15.IsWhole) (arg16 : Memref sig .tc .vmem S64x1 .f32) (harg16 : arg16.IsWhole) (hc0 : ¬cond0_0 i) (hc1 : cond0_1 i)
    (x0 : Vec F S1x64x256 .bf16) (x1 : Vec F S1x8x256 .bf16) (x2 : Vec F S1x8x256 .bf16) (x3 : Vec F S8x1 .f32) (x4 : Vec F S8x1 .f32) (x5 : Vec F S1x8192x128 .fp8e4m3) (x6 : Vec F S1x8192x128 .fp8e4m3) (s : St F) (xi8 xi9 : Vec F S1x8x256 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare s.m ∗ owns (c : Thread nD τ) arg13 fullShare s.l ∗ owns (c : Thread nD τ) arg14 fullShare s.a ∗ owns (c : Thread nD τ) arg15 fullShare s.ks ∗ owns (c : Thread nD τ) arg16 fullShare s.vs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (finY (stepS ⟨x0, x1, x2, x3, x4, x5, x6⟩ s)) ∗ owns (c : Thread nD τ) arg10 fullShare xi8 ∗ owns (c : Thread nD τ) arg11 fullShare xi9 ∗ owns (c : Thread nD τ) arg12 fullShare (stepS ⟨x0, x1, x2, x3, x4, x5, x6⟩ s).m ∗ owns (c : Thread nD τ) arg13 fullShare (stepS ⟨x0, x1, x2, x3, x4, x5, x6⟩ s).l ∗ owns (c : Thread nD τ) arg14 fullShare (stepS ⟨x0, x1, x2, x3, x4, x5, x6⟩ s).a ∗ owns (c : Thread nD τ) arg15 fullShare (stepS ⟨x0, x1, x2, x3, x4, x5, x6⟩ s).ks ∗ owns (c : Thread nD τ) arg16 fullShare (stepS ⟨x0, x1, x2, x3, x4, x5, x6⟩ s).vs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
  sl_exec (disch := first | sl_exact hc0 | sl_exact hc1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; exact congrArg₂ k0_pay4 (bothA_over _ s.a _ _) (both_over _ s.l _ _)
  isplitl [H8]
  · iexists _; isplitr
    swap; · iexact H8
    ipureintro; exact harg10.read_unread _
  isplitl [H9]
  · iexists _; isplitr
    swap; · iexact H9
    ipureintro; exact harg11.read_unread _
  isplitl [HS0]
  · iexists _; isplitr
    swap; · iexact HS0
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS1]
  · iexists _; isplitr
    swap; · iexact HS1
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS2]
  · iexists _; isplitr
    swap; · iexact HS2
    ipureintro; sl_unfold_run_names; simp only [read_both, read_bothA, readCov_eq, readAt_lo, readAt_hi, readAt_loA, readAt_hiA, hi_read_lo, hiA_read_lo, View.writes_nil, readAt_S1x64x256, readAt_S1x8x256, readAt_S8x1, readAt_S1x8192x128, readAt_S64x1, readAt_S64x256, read_writes_S1x64x256, read_writes_S1x8x256, read_writes_S8x1, read_writes_S1x8192x128, read_writes_S64x1, read_writes_S64x256, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]; rfl
  isplitl [HS3]
  · iexists _; isplitr
    swap; · iexact HS3
    ipureintro; exact harg15.read_unread _
  iexists _; isplitr
  swap; · iexact HS4
  ipureintro; exact harg16.read_unread _

end Cert.KernelIdeal.Run

end
-- ==== Proof.KernelFrame.lean ====
/- The pipeline's proof data: what each buffer holds after each grid point, the body at a generic point, and the frame of the whole run. -/
module

public import proofs.«01_k».proof.Proof.KernelRunA
public import proofs.«01_k».proof.Proof.KernelRunB
public import proofs.«01_k».proof.Proof.KernelRunC
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at point `t`: the windows' blocks of the arrays as the pipeline finds them. -/
def blk (c : Dev nD) (t : Fin cfg0.N) : Blk F :=
  ⟨iblk m c 0 t, iblk m c 1 t, iblk m c 2 t, iblk m c 3 t, iblk m c 4 t, iblk m c 5 t, iblk m c 6 t⟩

/-- The same by the point's number. -/
def blkN (c : Dev nD) (n : ℕ) : Blk F := blk m c ⟨n % 256, lt_of_lt_of_eq (Nat.mod_lt _ (by decide)) N_0.symm⟩

/-- At a point of the grid, reading by number is reading by point. -/
theorem blkN_eq (c : Dev nD) (t : Fin cfg0.N) : blkN m c t.val = blk m c t := by
  have hN : t.val < 256 := lt_of_lt_of_eq t.isLt N_0
  unfold blkN; exact congrArg (blk m c) (Fin.ext (Nat.mod_eq_of_lt hN))

/-- The state carried out of point `n`: started anew at the first point of each batch. -/
def sAt (c : Dev nD) : ℕ → St F
  | 0 => stepS (blkN m c 0) (initS (blkN m c 0))
  | n + 1 => if (n + 1) % 64 = 0 then stepS (blkN m c (n + 1)) (initS (blkN m c (n + 1))) else stepS (blkN m c (n + 1)) (sAt c n)

/-- At the first point of a batch. -/
theorem sAt_first (c : Dev nD) (n : ℕ) (h : n % 64 = 0) : sAt m c n = stepS (blkN m c n) (initS (blkN m c n)) := by
  cases n with
  | zero => rfl
  | succ n => exact if_pos h

/-- At any other point. -/
theorem sAt_next (c : Dev nD) (n : ℕ) (h : ¬n % 64 = 0) : sAt m c n = stepS (blkN m c n) (sAt m c (n - 1)) := by
  cases n with
  | zero => exact absurd rfl h
  | succ n => exact if_neg h

/-- The carried scratch and the generator's register between points: at anything before the first, at `sAt` after point `n`. -/
def PhiS (c : Dev nD) : ℕ → sProp 𝕄
  | 0 => Pipeline.ΦA spec0 c
  | n + 1 => iprop(iprop(owns (c : Thread nD τ) scM0_0 fullShare (sAt m c n).m ∗ owns (c : Thread nD τ) scM0_1 fullShare (sAt m c n).l ∗ owns (c : Thread nD τ) scM0_2 fullShare (sAt m c n).a ∗ owns (c : Thread nD τ) scM0_3 fullShare (sAt m c n).ks ∗ owns (c : Thread nD τ) scM0_4 fullShare (sAt m c n).vs) ∗ (∃ r, prngReg c r))

/-- Between points, the scratch buffers hold the state folded through the point before. -/
theorem PhiS_succ (c : Dev nD) (n : ℕ) : PhiS m c (n + 1) = iprop(iprop(owns (c : Thread nD τ) scM0_0 fullShare (sAt m c n).m ∗ owns (c : Thread nD τ) scM0_1 fullShare (sAt m c n).l ∗ owns (c : Thread nD τ) scM0_2 fullShare (sAt m c n).a ∗ owns (c : Thread nD τ) scM0_3 fullShare (sAt m c n).ks ∗ owns (c : Thread nD τ) scM0_4 fullShare (sAt m c n).vs) ∗ (∃ r, prngReg c r)) := rfl
/-- The same, at a point that is not the first. -/
theorem PhiS_pos (c : Dev nD) (n : ℕ) (h : n ≠ 0) : PhiS m c n = iprop(iprop(owns (c : Thread nD τ) scM0_0 fullShare (sAt m c (n - 1)).m ∗ owns (c : Thread nD τ) scM0_1 fullShare (sAt m c (n - 1)).l ∗ owns (c : Thread nD τ) scM0_2 fullShare (sAt m c (n - 1)).a ∗ owns (c : Thread nD τ) scM0_3 fullShare (sAt m c (n - 1)).ks ∗ owns (c : Thread nD τ) scM0_4 fullShare (sAt m c (n - 1)).vs) ∗ (∃ r, prngReg c r)) := by
  obtain ⟨k, rfl⟩ := Nat.exists_eq_succ_of_ne_zero h; rfl

/-- The pipeline's proof data on core `c`: each input's buffer stays at its block; the output rows at the quotient of the state;
    the code buffers at the codes of the batch's new rows; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => finY (sAt m c t.val)
    | ⟨8, _⟩ => kcOf (blkN m c (t.val / 64 * 64))
    | ⟨9, _⟩ => vcOf (blkN m c (t.val / 64 * 64))
  Φ t := PhiS m c t.val
  q _ := fullShare
  owed _ := 0

/-- The arrays the proof data starts from are those the pipeline finds. -/
theorem A_eq (c : Dev nD) (w : Fin cfg0.W) : (dats m 0 c).A w = V m c (Pipeline.arrRef spec0 w) := by
  dsimp only [dats]

/-- What the proof data says of the scratch before a point, by the point's number. -/
theorem PhiS_castSucc (c : Dev nD) (t : Fin cfg0.N) : (dats m 0 c).Φ t.castSucc = PhiS m c t.val := by
  dsimp only [dats]; rfl

/-- After a point, input window 0 still holds its block. -/
theorem after0_0 (c : Dev nD) (t : Fin cfg0.N) : (dats m 0 c).after 0 t = iblk m c 0 t := by dsimp only [dats]
/-- After a point, input window 1 still holds its block. -/
theorem after0_1 (c : Dev nD) (t : Fin cfg0.N) : (dats m 0 c).after 1 t = iblk m c 1 t := by dsimp only [dats]
/-- After a point, input window 2 still holds its block. -/
theorem after0_2 (c : Dev nD) (t : Fin cfg0.N) : (dats m 0 c).after 2 t = iblk m c 2 t := by dsimp only [dats]
/-- After a point, input window 3 still holds its block. -/
theorem after0_3 (c : Dev nD) (t : Fin cfg0.N) : (dats m 0 c).after 3 t = iblk m c 3 t := by dsimp only [dats]
/-- After a point, input window 4 still holds its block. -/
theorem after0_4 (c : Dev nD) (t : Fin cfg0.N) : (dats m 0 c).after 4 t = iblk m c 4 t := by dsimp only [dats]
/-- After a point, input window 5 still holds its block. -/
theorem after0_5 (c : Dev nD) (t : Fin cfg0.N) : (dats m 0 c).after 5 t = iblk m c 5 t := by dsimp only [dats]
/-- After a point, input window 6 still holds its block. -/
theorem after0_6 (c : Dev nD) (t : Fin cfg0.N) : (dats m 0 c).after 6 t = iblk m c 6 t := by dsimp only [dats]
/-- After a point, the staged attention rows are the quotient of the state there. -/
theorem after0_7 (c : Dev nD) (t : Fin cfg0.N) : (dats m 0 c).after 7 t = finY (sAt m c t.val) := by dsimp only [dats]
/-- After a point, the staged key codes are those of the batch's first point. -/
theorem after0_8 (c : Dev nD) (t : Fin cfg0.N) : (dats m 0 c).after 8 t = kcOf (blkN m c (t.val / 64 * 64)) := by dsimp only [dats]
/-- After a point, the staged value codes are those of the batch's first point. -/
theorem after0_9 (c : Dev nD) (t : Fin cfg0.N) : (dats m 0 c).after 9 t = vcOf (blkN m c (t.val / 64 * 64)) := by dsimp only [dats]
/-- Before a point, input window 0 holds its block. -/
theorem before0_0 (c : Dev nD) (t : Fin cfg0.N) (d) : (dats m 0 c).before 0 t d = iblk m c 0 t :=
  before0_0_of m (dats m 0 c) (A_eq m c 0) (after0_0 m c) t d
/-- Before a point, input window 1 holds its block. -/
theorem before0_1 (c : Dev nD) (t : Fin cfg0.N) (d) : (dats m 0 c).before 1 t d = iblk m c 1 t :=
  before0_1_of m (dats m 0 c) (A_eq m c 1) (after0_1 m c) t d
/-- Before a point, input window 2 holds its block. -/
theorem before0_2 (c : Dev nD) (t : Fin cfg0.N) (d) : (dats m 0 c).before 2 t d = iblk m c 2 t :=
  before0_2_of m (dats m 0 c) (A_eq m c 2) (after0_2 m c) t d
/-- Before a point, input window 3 holds its block. -/
theorem before0_3 (c : Dev nD) (t : Fin cfg0.N) (d) : (dats m 0 c).before 3 t d = iblk m c 3 t :=
  before0_3_of m (dats m 0 c) (A_eq m c 3) (after0_3 m c) t d
/-- Before a point, input window 4 holds its block. -/
theorem before0_4 (c : Dev nD) (t : Fin cfg0.N) (d) : (dats m 0 c).before 4 t d = iblk m c 4 t :=
  before0_4_of m (dats m 0 c) (A_eq m c 4) (after0_4 m c) t d
/-- Before a point, input window 5 holds its block. -/
theorem before0_5 (c : Dev nD) (t : Fin cfg0.N) (d) : (dats m 0 c).before 5 t d = iblk m c 5 t :=
  before0_5_of m (dats m 0 c) (A_eq m c 5) (after0_5 m c) t d
/-- Before a point, input window 6 holds its block. -/
theorem before0_6 (c : Dev nD) (t : Fin cfg0.N) (d) : (dats m 0 c).before 6 t d = iblk m c 6 t :=
  before0_6_of m (dats m 0 c) (A_eq m c 6) (after0_6 m c) t d

/-- Inside a batch output 8's contents do not change. -/
theorem carry0_8 (c : Dev nD) (t : Fin cfg0.N) (h : ¬t.val % 64 = 0) : (dats m 0 c).after 8 t = (dats m 0 c).after 8 ⟨t.val - 1, by omega⟩ := by
  rw [after0_8, after0_8]
  rw [show (t.val - 1) / 64 * 64 = t.val / 64 * 64 from by omega]
/-- At a point that does not start a batch output 8's buffer already holds the batch's codes. -/
theorem before0_8 (c : Dev nD) (t : Fin cfg0.N) (h : ¬t.val % 64 = 0) (d) : (dats m 0 c).before 8 t d = (dats m 0 c).after 8 t := by
  rw [Dat.before_out_traj _ 8 rfl (fun _ _ => rfl) (fun t _ hi _ => carry0_8 m c t (fun h0 => by
      rw [liveAt0_8 t ((hcond0_0 t).mpr h0)] at hi; exact absurd hi Bool.false_ne_true)) t.val t rfl d,
    if_neg (by rw [notFresh0_8 t h]; exact Bool.false_ne_true), carry0_8 m c t h]

/-- Inside a batch output 9's contents do not change. -/
theorem carry0_9 (c : Dev nD) (t : Fin cfg0.N) (h : ¬t.val % 64 = 0) : (dats m 0 c).after 9 t = (dats m 0 c).after 9 ⟨t.val - 1, by omega⟩ := by
  rw [after0_9, after0_9]
  rw [show (t.val - 1) / 64 * 64 = t.val / 64 * 64 from by omega]
/-- At a point that does not start a batch output 9's buffer already holds the batch's codes. -/
theorem before0_9 (c : Dev nD) (t : Fin cfg0.N) (h : ¬t.val % 64 = 0) (d) : (dats m 0 c).before 9 t d = (dats m 0 c).after 9 t := by
  rw [Dat.before_out_traj _ 9 rfl (fun _ _ => rfl) (fun t _ hi _ => carry0_9 m c t (fun h0 => by
      rw [liveAt0_9 t ((hcond0_0 t).mpr h0)] at hi; exact absurd hi Bool.false_ne_true)) t.val t rfl d,
    if_neg (by rw [notFresh0_9 t h]; exact Bool.false_ne_true), carry0_9 m c t h]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: which of the three cases it is in, that case's run, and what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 64 = 0
  · have h1 : ¬t.val % 64 = 63 := by omega
    have hs : sAt m c t.val = stepS (blk m c t) (initS (blk m c t)) := by rw [sAt_first m c _ h0, blkN_eq]
    have hk : blkN m c (t.val / 64 * 64) = blk m c t := by rw [show t.val / 64 * 64 = t.val from by omega, blkN_eq]
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [show (dats m 0 c).leavesExact 8 t = owns (c : Thread nD τ) (ms0_8 t) fullShare ((dats m 0 c).after 8 t) from by
      unfold Dat.leavesExact; rw [liveAt0_8 t ((hcond0_0 t).mpr h0)], after0_8]
    rw [show (dats m 0 c).leavesExact 9 t = owns (c : Thread nD τ) (ms0_9 t) fullShare ((dats m 0 c).after 9 t) from by
      unfold Dat.leavesExact; rw [liveAt0_9 t ((hcond0_0 t).mpr h0)], after0_9]
    rw [hk]
    by_cases hz : t.val = 0
    · rw [PhiS_castSucc m c t, hz, show PhiS m c 0 = Pipeline.ΦA spec0 c from rfl, PhiA0_eq]
      rw [hz] at hs
      iintro ⟨⟨⟨⟨%ds0, HS0⟩, ⟨%ds1, HS1⟩, ⟨%ds2, HS2⟩, ⟨%ds3, HS3⟩, ⟨%ds4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      iexact H9
    · rw [PhiS_castSucc m c t, PhiS_pos m c _ hz]
      skip
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      iexact H9
  · have hz : t.val ≠ 0 := fun h => h0 (by rw [h])
    have hs : sAt m c t.val = stepS (blk m c t) (sAt m c (t.val - 1)) := by rw [sAt_next m c _ h0, blkN_eq]
    simp only [before0_8 m c t h0, before0_9 m c t h0]
    by_cases h1 : t.val % 64 = 63
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [idleAt0_8 t (fun h => h0 ((hcond0_0 t).mp h)), flushAt0_8 t ((hcond0_1 t).mpr h1)]]
      rw [show (dats m 0 c).leavesExact 9 t = owns (c : Thread nD τ) (ms0_9 t) fullShare ((dats m 0 c).after 9 t) from by
        unfold Dat.leavesExact; rw [idleAt0_9 t (fun h => h0 ((hcond0_0 t).mp h)), flushAt0_9 t ((hcond0_1 t).mpr h1)]]
      rw [hs]
      rw [PhiS_castSucc m c t, PhiS_pos m c _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (sAt m c (t.val - 1)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8 t (fun h => h0 ((hcond0_0 t).mp h))) (noFlush0_8 t (fun h => h1 ((hcond0_1 t).mp h)))]
      rw [Dat.leavesExact_idle (dats m 0 c) 9 t (idleAt0_9 t (fun h => h0 ((hcond0_0 t).mp h))) (noFlush0_9 t (fun h => h1 ((hcond0_1 t).mp h)))]
      simp only [before0_8 m c t h0, before0_9 m c t h0]
      rw [PhiS_castSucc m c t, PhiS_pos m c _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (sAt m c (t.val - 1)) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · rw [hs]; isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexists d8; iexact H8
      iexists d9; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: from any launch, every fair execution ends, with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.Attend.lean ====
/- Softmax attention over the extended reals, accumulated block by block: the online recurrence ends at the one-pass
   quotient. Nothing here mentions a program. -/
module

public import Idealize.ShloMosaic.Lib.Pointwise

@[expose] public section

noncomputable section

namespace Cert.Attend

open Idealize.ShloMosaic

/-- A finite sum times a nonnegative real factor is the sum of the scaled terms, whatever infinities occur among them. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The exponential is nonnegative. -/
theorem exp_nonneg (x : EReal) : 0 ≤ Ideal.exp x := by
  induction x using EReal.rec with
  | bot => exact le_refl _
  | coe r => rw [Ideal.exp_coe]; exact EReal.coe_nonneg.2 (Real.exp_pos r).le
  | top => rw [Ideal.exp_top]; exact le_top

/-- The exponential of a difference `x - y` with `x ≤ y` is not infinite. -/
theorem exp_sub_ne_top {x y : EReal} (h : x ≤ y) : Ideal.exp (x - y) ≠ ⊤ := by
  induction y using EReal.rec with
  | bot => rw [le_bot_iff.1 h]; simp
  | top => simp
  | coe b =>
    induction x using EReal.rec with
    | bot => simp
    | top => exact absurd h (not_le.2 (EReal.coe_lt_top b))
    | coe a => rw [← EReal.coe_sub, Ideal.exp_coe]; exact EReal.coe_ne_top _

/-- Rescaling a weight taken against an old maximum gives the weight against the new one. -/
theorem exp_rescale {s a b : EReal} (h1 : s ≤ a) (h2 : a ≤ b) :
    Ideal.exp (s - a) * Ideal.exp (a - b) = Ideal.exp (s - b) := by
  induction b using EReal.rec with
  | bot => rw [le_bot_iff.1 h2] at h1 ⊢; rw [le_bot_iff.1 h1]; simp
  | top => simp
  | coe b =>
    induction a using EReal.rec with
    | bot => rw [le_bot_iff.1 h1]; simp
    | top => exact absurd h2 (not_le.2 (EReal.coe_lt_top b))
    | coe a =>
      induction s using EReal.rec with
      | bot => simp
      | top => exact absurd h1 (not_le.2 (EReal.coe_lt_top a))
      | coe s =>
        rw [← EReal.coe_sub, ← EReal.coe_sub, ← EReal.coe_sub, Ideal.exp_coe, Ideal.exp_coe, Ideal.exp_coe, ← EReal.coe_mul,
          ← Real.exp_add]
        congr 2; ring

/-- The running maximum: the first score, then block after block. -/
def mx (s0 : EReal) (σ : ℕ → Fin 512 → EReal) : ℕ → EReal
  | 0 => s0
  | n + 1 => max (mx s0 σ n) (Finset.univ.sup (σ n))

/-- The running weighted sum: rescaled at each block to the new maximum, the block's own terms added. -/
def acc (s0 a0 c : EReal) (σ w : ℕ → Fin 512 → EReal) : ℕ → EReal
  | 0 => a0
  | n + 1 => acc s0 a0 c σ w n * Ideal.exp (mx s0 σ n - mx s0 σ (n + 1))
      + (∑ j, Ideal.exp (σ n j - mx s0 σ (n + 1)) * w n j) * c

variable (s0 a0 c : EReal) (σ w : ℕ → Fin 512 → EReal)

/-- The running maximum does not fall. -/
theorem mx_le_succ (n : ℕ) : mx s0 σ n ≤ mx s0 σ (n + 1) := le_max_left _ _

/-- The first score is below the running maximum. -/
theorem first_le_mx (n : ℕ) : s0 ≤ mx s0 σ n := by
  induction n with
  | zero => exact le_refl _
  | succ n ih => exact ih.trans (mx_le_succ s0 σ n)

/-- So is every score of the blocks met so far. -/
theorem score_le_mx (n : ℕ) : ∀ i < n, ∀ j, σ i j ≤ mx s0 σ n := by
  induction n with
  | zero => intro i hi; exact absurd hi (Nat.not_lt_zero i)
  | succ n ih =>
    intro i hi j
    rcases Nat.lt_succ_iff_lt_or_eq.1 hi with h | h
    · exact (ih i h j).trans (mx_le_succ s0 σ n)
    · subst h; exact (Finset.le_sup (f := σ i) (Finset.mem_univ j)).trans (le_max_right _ _)

/-- The running maximum is below any bound of the scores. -/
theorem mx_le (b : EReal) (h0 : s0 ≤ b) (n : ℕ) (h : ∀ i < n, ∀ j, σ i j ≤ b) : mx s0 σ n ≤ b := by
  induction n with
  | zero => exact h0
  | succ n ih => exact max_le (ih fun i hi => h i (Nat.lt_succ_of_lt hi)) (Finset.sup_le fun j _ => h n (Nat.lt_succ_self n) j)

/-- After one block or more, the running weighted sum is the one-pass weighted sum against the running maximum. -/
theorem acc_eq (h0 : 0 ≤ c) (ht : c ≠ ⊤) (n : ℕ) : acc s0 a0 c σ w (n + 1)
    = Ideal.exp (s0 - mx s0 σ (n + 1)) * a0
      + ∑ i ∈ Finset.range (n + 1), ∑ j, Ideal.exp (σ i j - mx s0 σ (n + 1)) * (w i j * c) := by
  have blk : ∀ k (M : EReal), (∑ j, Ideal.exp (σ k j - M) * w k j) * c = ∑ j, Ideal.exp (σ k j - M) * (w k j * c) := by
    intro k M; rw [sum_mul _ _ h0 ht]; exact Finset.sum_congr rfl fun j _ => mul_assoc _ _ _
  induction n with
  | zero =>
    show a0 * Ideal.exp (s0 - mx s0 σ 1) + _ = _
    rw [blk, Finset.sum_range_one, mul_comm]
  | succ n ih =>
    have hc0 := exp_nonneg (mx s0 σ (n + 1) - mx s0 σ (n + 2))
    have hct := exp_sub_ne_top (mx_le_succ s0 σ (n + 1))
    show acc s0 a0 c σ w (n + 1) * Ideal.exp (mx s0 σ (n + 1) - mx s0 σ (n + 2)) + _ = _
    rw [blk, ih, Finset.sum_range_succ _ (n + 1), ← add_assoc, EReal.right_distrib_of_nonneg_of_ne_top hc0 hct, sum_mul _ _ hc0 hct]
    congr 2
    · rw [mul_right_comm, exp_rescale (first_le_mx s0 σ _) (mx_le_succ s0 σ _)]
    · refine Finset.sum_congr rfl fun i hi => ?_
      rw [sum_mul _ _ hc0 hct]
      refine Finset.sum_congr rfl fun j _ => ?_
      rw [mul_right_comm, exp_rescale (score_le_mx s0 σ _ i (Finset.mem_range.1 hi) j) (mx_le_succ s0 σ _)]

/-- The running denominator is the running weighted sum of ones. -/
theorem acc_one (n : ℕ) (d : ℕ → EReal) (hd0 : d 0 = 1)
    (hd : ∀ k, d (k + 1) = d k * Ideal.exp (mx s0 σ k - mx s0 σ (k + 1)) + ∑ j, Ideal.exp (σ k j - mx s0 σ (k + 1))) :
    d n = acc s0 1 1 σ (fun _ _ => 1) n := by
  induction n with
  | zero => exact hd0
  | succ n ih =>
    show _ = acc s0 1 1 σ (fun _ _ => 1) n * _ + (∑ j, _ * 1) * 1
    rw [hd, ih, mul_one]; simp only [mul_one]

/-- A time step, by its number. -/
def tk (n : ℕ) : Fin 32768 := ⟨n % 32768, Nat.mod_lt _ (by decide)⟩

/-- A sum over all time steps, block by block. -/
theorem sum_blocks (f : Fin 32768 → EReal) : ∑ t, f t = ∑ i ∈ Finset.range 64, ∑ j : Fin 512, f (tk (i * 512 + j.val)) := by
  rw [Finset.sum_range, ← Fintype.sum_prod_type']
  refine (Fintype.sum_equiv (finProdFinEquiv (m := 64) (n := 512)) _ _ fun p => ?_).symm
  refine congrArg f (Fin.ext ?_)
  have h1 := p.1.isLt; have h2 := p.2.isLt
  show (p.1.val * 512 + p.2.val) % 32768 = p.2.val + 512 * p.1.val
  omega

/-- The maximum over all time steps and the new one is the running maximum after every block. -/
theorem max_blocks (S : Fin 32768 → EReal) (b : EReal) (hS : ∀ t, S t ≤ b) (h0 : s0 ≤ b)
    (hb : ∀ x, (∀ t, S t ≤ x) → s0 ≤ x → b ≤ x) : mx s0 (fun i j => S (tk (i * 512 + j.val))) 64 = b := by
  refine le_antisymm (mx_le _ _ b h0 64 fun i _ j => hS _) (hb _ (fun t => ?_) (first_le_mx _ _ _))
  have ht := t.isLt
  have := score_le_mx s0 (fun i (j : Fin 512) => S (tk (i * 512 + j.val))) 64 (t.val / 512) (by omega) ⟨t.val % 512, Nat.mod_lt _ (by decide)⟩
  refine le_trans (le_of_eq (congrArg S (Fin.ext ?_))) this
  show t.val = (t.val / 512 * 512 + t.val % 512) % 32768
  omega

/-- The sum over a block's 2048 columns, four heads to a token, of a family that is zero off one head. -/
theorem sum_cols (h : Fin 4) (f : Fin 2048 → EReal) (g : Fin 512 → EReal)
    (hf : ∀ c : Fin 2048, f c = if c.val % 4 = h.val then g ⟨c.val / 4, by have := c.isLt; omega⟩ else 0) : ∑ c, f c = ∑ j, g j := by
  rw [← Fintype.sum_equiv (finProdFinEquiv (m := 512) (n := 4)) (fun p => if p.2 = h then g p.1 else 0) f ?_, Fintype.sum_prod_type]
  · refine Finset.sum_congr rfl fun j _ => ?_
    rw [Finset.sum_ite_eq' Finset.univ h]; simp
  · intro p
    have h1 := p.1.isLt; have h2 := p.2.isLt
    have hv : (finProdFinEquiv p).val = p.2.val + 4 * p.1.val := rfl
    rw [hf]
    by_cases e : p.2 = h
    · rw [if_pos e, if_pos (by rw [hv, ← e]; omega)]
      refine congrArg g (Fin.ext ?_)
      show p.1.val = (finProdFinEquiv p).val / 4
      rw [hv]; omega
    · rw [if_neg e, if_neg (by rw [hv]; intro e'; exact e (Fin.ext (by omega)))]

/-- The maximum over those columns of a family that is `⊥` off one head. -/
theorem max_cols (h : Fin 4) (f : Fin 2048 → EReal) (g : Fin 512 → EReal)
    (hf : ∀ c : Fin 2048, f c = if c.val % 4 = h.val then g ⟨c.val / 4, by have := c.isLt; omega⟩ else ⊥) :
    Finset.univ.fold max ⊥ f = Finset.univ.sup g := by
  show Finset.univ.sup f = _
  refine le_antisymm (Finset.sup_le fun c _ => ?_) (Finset.sup_le fun j _ => ?_)
  · rw [hf]; split
    · exact Finset.le_sup (f := g) (Finset.mem_univ _)
    · exact bot_le
  · have h1 := j.isLt; have h2 := h.isLt
    refine le_trans (le_of_eq ?_) (Finset.le_sup (f := f) (Finset.mem_univ ⟨j.val * 4 + h.val, by omega⟩))
    rw [hf, if_pos (by show (j.val * 4 + h.val) % 4 = h.val; omega)]
    exact congrArg g (Fin.ext (by show j.val = (j.val * 4 + h.val) / 4; omega))

/-- The maximum of a family over 32769 places is that of the first 32768 and the last. -/
theorem fold_last (f : Fin 32769 → EReal) :
    Finset.univ.fold max ⊥ f = max (Finset.univ.sup fun t : Fin 32768 => f t.castSucc) (f (Fin.last 32768)) := by
  show Finset.univ.sup f = _
  refine le_antisymm (Finset.sup_le fun t _ => ?_)
    (max_le (Finset.sup_le fun t _ => Finset.le_sup (f := f) (Finset.mem_univ _)) (Finset.le_sup (f := f) (Finset.mem_univ _)))
  induction t using Fin.lastCases with
  | last => exact le_max_right _ _
  | cast t => exact (Finset.le_sup (f := fun t : Fin 32768 => f t.castSucc) (Finset.mem_univ t)).trans (le_max_left _ _)

/-- Softmax attention in one pass: scores `S` and values `W` of the cached steps, score `s0` and value `a0` of the new one. -/
def one (s0 a0 : EReal) (S W : Fin 32768 → EReal) : EReal :=
  Ideal.div ((∑ t, Ideal.exp (S t - max (Finset.univ.sup S) s0) * W t) + Ideal.exp (s0 - max (Finset.univ.sup S) s0) * a0)
    ((∑ t, Ideal.exp (S t - max (Finset.univ.sup S) s0)) + Ideal.exp (s0 - max (Finset.univ.sup S) s0))

/-- A softmax over 32769 places, its weighted sum cut into the first 32768 and the last, is the one-pass quotient. -/
theorem softmax_split (T : Fin 32769 → EReal) (W : Fin 32768 → EReal) (a0 : EReal) :
    Ideal.div ((∑ t : Fin 32768, Ideal.exp (T ⟨t.val, t.isLt.trans (Nat.lt_succ_self _)⟩ - Finset.univ.fold max ⊥ T) * W t)
        + ∑ _ : Fin 1, Ideal.exp (T (Fin.last 32768) - Finset.univ.fold max ⊥ T) * a0)
        (∑ t, Ideal.exp (T t - Finset.univ.fold max ⊥ T))
      = one (T (Fin.last 32768)) a0 (fun t => T t.castSucc) W := by
  rw [fold_last, Fin.sum_univ_castSucc (n := 32768), Fin.sum_univ_one]
  rfl

/-- The online recurrence over the 64 blocks, its sum divided by its denominator, is the one-pass quotient. -/
theorem online (h0 : 0 ≤ c) (ht : c ≠ ⊤) (S W : Fin 32768 → EReal) :
    Ideal.div (acc s0 a0 c (fun i j => S (tk (i * 512 + j.val))) (fun i j => W (tk (i * 512 + j.val))) 64)
        (acc s0 1 1 (fun i j => S (tk (i * 512 + j.val))) (fun _ _ => 1) 64)
      = one s0 a0 S fun t => W t * c := by
  have hM : mx s0 (fun i j => S (tk (i * 512 + j.val))) 64 = max (Finset.univ.sup S) s0 :=
    max_blocks s0 S _ (fun t => (Finset.le_sup (f := S) (Finset.mem_univ t)).trans (le_max_left _ _)) (le_max_right _ _)
      fun x hx h => max_le (Finset.sup_le fun t _ => hx t) h
  rw [acc_eq s0 a0 c _ _ h0 ht 63, acc_eq s0 1 1 _ _ zero_le_one (EReal.coe_ne_top 1) 63]
  show Ideal.div (Ideal.exp (s0 - mx s0 (fun i j => S (tk (i * 512 + j.val))) 64) * a0 + _) (Ideal.exp (s0 - mx s0 (fun i j => S (tk (i * 512 + j.val))) 64) * 1 + _) = _
  unfold one
  rw [sum_blocks fun t => Ideal.exp (S t - max (Finset.univ.sup S) s0) * (W t * c),
    sum_blocks fun t => Ideal.exp (S t - max (Finset.univ.sup S) s0), hM]
  simp only [mul_one]
  rw [add_comm (Ideal.exp _ * a0), add_comm (Ideal.exp (s0 - _))]

/-- The softmax scale, one over the square root of the head size. -/
def sm : EReal := Ideal.ofBits .f32 0x3D800000#32

/-- The quantiser: the value over the scale, clipped to the code's range. -/
def code (x s : EReal) : EReal := min (Ideal.ofBits .f32 0x43E00000#32) (max (Ideal.ofBits .f32 0xC3E00000#32) (Ideal.div x s))

/-- One attention output: query row `x`, new key row `kn` and new value `vn`, cached key codes `ck` and value codes `cv`, scales `ks` and `vs`. -/
def yOf (x kn : Fin 256 → EReal) (vn : EReal) (ck : Fin 32768 → Fin 256 → EReal) (cv : Fin 32768 → EReal) (ks vs : EReal) : EReal :=
  one ((∑ e, x e * (code (kn e) ks * ks)) * sm) (code vn vs * vs) (fun t => (∑ e, x e * (ck t e * ks)) * sm) (fun t => cv t * vs)

/-- Scaling a score after the product, by the codes' scale and the softmax scale at once, is scaling the codes before it. -/
theorem score_scale (x k : Fin 256 → EReal) {ks : EReal} (h0 : 0 ≤ ks) (ht : ks ≠ ⊤) :
    (∑ e, x e * k e) * (ks * sm) = (∑ e, x e * (k e * ks)) * sm := by
  rw [← mul_assoc, sum_mul _ _ h0 ht]
  congr 1
  exact Finset.sum_congr rfl fun e _ => mul_assoc _ _ _

end Cert.Attend

end
-- ==== Proof.KernelIdx.lean ====
/- Each vector the kernel's body computes, read at an index over the extended reals. -/
module

public import proofs.«01_k».proof.Proof.KernelBase
public import proofs.«01_k».proof.Proof.Attend
public import Idealize.ShloMosaic.Lib.Pipeline.Value

@[expose] public section

set_option maxRecDepth 16384

noncomputable section

namespace Cert.KernelIdeal.Idx

open Cert.KernelIdeal.Gen Cert.KernelIdeal.Run
open Idealize.ShloMosaic Idealize.ShloMosaic.TcCoe Idealize.ShloMosaic.Tactic

/-- The word of minus infinity. -/
theorem ofBits_negInf : Ideal.ofBits .f32 0xFF800000#32 = ⊥ := by simp [Ideal.ofBits, Ideal.ieee]

/-- Equal second summands give equal sums. -/
theorem add_right {a b c : EReal} (h : b = c) : a + b = a + c := by rw [h]
/-- Equal second factors give equal products. -/
theorem mul_right {a b c : EReal} (h : b = c) : a * b = a * c := by rw [h]
/-- The two together. -/
theorem add_mul_right {a b c d : EReal} (h : b = c) : a + b * d = a + c * d := by rw [h]

/-- The mask of query rows against heads: row `r` reads head `r / 8`. -/
theorem onehot_at (r : Fin 64) (h : Fin 8) : k0_pay20 (ix2 r h) = if r.val / 8 = h.val then 1#1 else 0#1 := by
  revert r h; decide +kernel

/-- Sixteen copies of one block side by side, read at a column. -/
theorem tile16 (x : FVec Ideal S32x128 .f32) (r : Fin 32) (c : Fin 2048) :
    concatenate S32x2048 1 [⟨S32x128, x⟩, ⟨S32x128, x⟩, ⟨S32x128, x⟩, ⟨S32x128, x⟩, ⟨S32x128, x⟩, ⟨S32x128, x⟩, ⟨S32x128, x⟩, ⟨S32x128, x⟩,
      ⟨S32x128, x⟩, ⟨S32x128, x⟩, ⟨S32x128, x⟩, ⟨S32x128, x⟩, ⟨S32x128, x⟩, ⟨S32x128, x⟩, ⟨S32x128, x⟩, ⟨S32x128, x⟩]
      concatenates_S32x128_S32x128_S32x128_S32x128_S32x128_S32x128_S32x128_S32x128_S32x128_S32x128_S32x128_S32x128_S32x128_S32x128_S32x128_S32x128_S32x2048_d1 (ix2 r c)
      = x (ix2 r ⟨c.val % 128, Nat.mod_lt _ (by decide)⟩) := by
  refine concatenate_replicate_apply (t := S32x2048) 1 16 x _ rfl (ix2 r c) (ix2 r ⟨c.val % 128, Nat.mod_lt _ (by decide)⟩) rfl ?_
  intro b hb
  match b, hb with
  | ⟨0, _⟩, _ => rfl
  | ⟨1, _⟩, hb => exact absurd rfl hb

/-- A choice between two constants by a mask known at every index. -/
theorem sel_of (v : IVec S32x128 1) (hv : ∀ (r : Fin 32) (c : Fin 128), v (ix2 r c) = if c.val % 4 = r.val / 8 then 1#1 else 0#1) (x y : EReal)
    (r : Fin 32) (c : Fin 2048) :
    select v (broadcast S32x128 x) (broadcast S32x128 y) (ix2 r ⟨c.val % 128, Nat.mod_lt _ (by decide)⟩) = if c.val % 4 = r.val / 8 then x else y := by
  show Scalar.select (v _) x y = _
  rw [hv]
  have e : c.val % 128 % 4 = c.val % 4 := by omega
  show Scalar.select (if c.val % 128 % 4 = r.val / 8 then 1#1 else 0#1) x y = _
  rw [e]; split <;> rfl

/-- The additive mask of the scores: zero on the column's own head, minus infinity elsewhere. -/
theorem bias_at (r : Fin 32) (c : Fin 2048) : bias (F := Ideal) (ix2 r c) = if c.val % 4 = r.val / 8 then 0 else ⊥ := by
  unfold bias k0_pay23
  refine (tile16 _ r c).trans ?_
  refine (sel_of _ (by decide +kernel) _ _ r c).trans ?_
  show (if _ then Ideal.ofBits .f32 0x00000000#32 else Ideal.ofBits .f32 0xFF800000#32) = _
  rw [ofBits_negInf, Ideal.ofBits_zero_f32]

/-- The element of a block of codes at a head, a token of the block and a feature. -/
def kw (x : Vec Ideal S1x8192x128 .fp8e4m3) (kv : Fin 8) (j : Fin 512) (e : Fin 256) : EReal :=
  x (ix3 0 ⟨j.val * 16 + e.val / 128 * 8 + kv.val, by have := j.isLt; have := e.isLt; have := kv.isLt; omega⟩ ⟨e.val % 128, Nat.mod_lt _ (by decide)⟩)

/-- The head that query row `r` reads. -/
def kvOf (r : Fin 64) : Fin 8 := ⟨r.val / 8, by have := r.isLt; omega⟩

/-- Row `r`'s score of token `j` of a block. -/
def sc (q : Vec Ideal S1x64x256 .bf16) (k : Vec Ideal S1x8192x128 .fp8e4m3) (s : EReal) (r : Fin 64) (j : Fin 512) : EReal :=
  (∑ e, q (ix3 0 r e) * kw k (kvOf r) j e) * s

set_option backward.isDefEq.respectTransparency false in
/-- The scores of rows 0 to 31: the row's own head's, minus infinity elsewhere. -/
theorem score_lo (q : Vec Ideal S1x64x256 .bf16) (k : Vec Ideal S1x8192x128 .fp8e4m3) (s : Vec Ideal S32x1 .f32) (r : Fin 32) (c : Fin 2048) :
    k0_pay25 (F := Ideal) (k0_pay19 q) bias (k0_pay24 (k0_pay21 k)) s (ix2 r c)
      = if c.val % 4 = r.val / 8 then sc q k (s (ix2 r 0)) ⟨r.val, by have := r.isLt; omega⟩ ⟨c.val / 4, by have := c.isLt; omega⟩ else ⊥ := by
  have hr := r.isLt; have hc := c.isLt
  pointwise [k0_pay25, k0_pay19, k0_pay24, k0_pay21]
  rw [bias_at]
  split
  · rename_i h
    rw [add_zero]
    unfold sc
    congr 1
    rw [Fin.sum_univ_two_halves 128 128 rfl]
    congr 1
    · refine Finset.sum_congr rfl fun x _ => ?_
      have hx := x.isLt
      unfold kw kvOf
      congr 3
      · exact Fin.ext (by simp only; omega)
      · exact Fin.ext (by simp only; omega)
    · refine Finset.sum_congr rfl fun x _ => ?_
      have hx := x.isLt
      unfold kw kvOf
      congr 3
      · exact Fin.ext (by simp only; omega)
      · exact Fin.ext (by simp only; omega)
  · exact EReal.add_bot _

set_option backward.isDefEq.respectTransparency false in
/-- The new maximum of rows 0 to 31. -/
theorem max_lo (q : Vec Ideal S1x64x256 .bf16) (k : Vec Ideal S1x8192x128 .fp8e4m3) (s mo : Vec Ideal S32x1 .f32) (r : Fin 32) :
    k0_pay26 (F := Ideal) (k0_pay19 q) bias (k0_pay24 (k0_pay21 k)) s mo (ix2 r 0)
      = max (mo (ix2 r 0)) (Finset.univ.sup (sc q k (s (ix2 r 0)) ⟨r.val, by have := r.isLt; omega⟩)) := by
  have hr := r.isLt
  have H := score_lo q k s r
  unfold k0_pay26
  generalize k0_pay25 (F := Ideal) (k0_pay19 q) bias (k0_pay24 (k0_pay21 k)) s = S at H ⊢
  pointwise
  refine congrArg (max _) ?_
  show Finset.fold max (Ideal.ofBits .f32 0xFF800000#32) _ _ = _
  rw [ofBits_negInf]
  exact Attend.max_cols ⟨r.val / 8, by omega⟩ _ _ H

set_option backward.isDefEq.respectTransparency false in
/-- The new denominator of rows 0 to 31. -/
theorem den_lo (q : Vec Ideal S1x64x256 .bf16) (k : Vec Ideal S1x8192x128 .fp8e4m3) (s mo l : Vec Ideal S32x1 .f32) (r : Fin 32) (M : EReal)
    (hM : k0_pay26 (F := Ideal) (k0_pay19 q) bias (k0_pay24 (k0_pay21 k)) s mo (ix2 r 0) = M) :
    k0_pay29 (F := Ideal) (k0_pay19 q) bias (k0_pay24 (k0_pay21 k)) s mo l (ix2 r 0)
      = l (ix2 r 0) * Ideal.exp (mo (ix2 r 0) - M) + ∑ j, Ideal.exp (sc q k (s (ix2 r 0)) ⟨r.val, by have := r.isLt; omega⟩ j - M) := by
  have hr := r.isLt
  have H := score_lo q k s r
  unfold k0_pay29 k0_pay27 k0_pay28
  generalize k0_pay26 (F := Ideal) (k0_pay19 q) bias (k0_pay24 (k0_pay21 k)) s mo = N at hM ⊢
  generalize k0_pay25 (F := Ideal) (k0_pay19 q) bias (k0_pay24 (k0_pay21 k)) s = S at H ⊢
  pointwise
  rw [hM]
  refine add_right ?_
  refine Attend.sum_cols ⟨r.val / 8, by omega⟩ _ (fun j => Ideal.exp (sc q k (s (ix2 r 0)) ⟨r.val, by have := r.isLt; omega⟩ j - M)) fun c => ?_
  rw [H]
  split
  · rfl
  · rw [sub_eq_add_neg, EReal.bot_add]; rfl

set_option backward.isDefEq.respectTransparency false in
/-- The new accumulator of rows 0 to 31. -/
theorem acc_lo (q : Vec Ideal S1x64x256 .bf16) (k v : Vec Ideal S1x8192x128 .fp8e4m3) (s mo vs : Vec Ideal S32x1 .f32) (a : Vec Ideal S32x256 .f32) (r : Fin 32)
    (d : Fin 256) (M : EReal) (hM : k0_pay26 (F := Ideal) (k0_pay19 q) bias (k0_pay24 (k0_pay21 k)) s mo (ix2 r 0) = M) :
    k0_pay32 (F := Ideal) (k0_pay30 (k0_pay19 q) (k0_pay22 v) bias (k0_pay24 (k0_pay21 k)) s mo) (k0_pay31 (k0_pay19 q) bias (k0_pay24 (k0_pay21 k)) s mo a) vs (ix2 r d)
      = a (ix2 r d) * Ideal.exp (mo (ix2 r 0) - M)
        + (∑ j, Ideal.exp (sc q k (s (ix2 r 0)) ⟨r.val, by have := r.isLt; omega⟩ j - M) * kw v (kvOf ⟨r.val, by have := r.isLt; omega⟩) j d) * vs (ix2 r 0) := by
  have hr := r.isLt; have hd := d.isLt
  have H := score_lo q k s r
  unfold k0_pay32 k0_pay30 k0_pay31 k0_pay27 k0_pay28
  generalize k0_pay26 (F := Ideal) (k0_pay19 q) bias (k0_pay24 (k0_pay21 k)) s mo = N at hM ⊢
  generalize k0_pay25 (F := Ideal) (k0_pay19 q) bias (k0_pay24 (k0_pay21 k)) s = S at H ⊢
  pointwise [k0_pay22]
  rw [hM]
  refine add_mul_right ?_
  refine Attend.sum_cols ⟨r.val / 8, by omega⟩ _ (fun j => Ideal.exp (sc q k (s (ix2 r 0)) ⟨r.val, by have := r.isLt; omega⟩ j - M) * kw v (kvOf ⟨r.val, by have := r.isLt; omega⟩) j d) fun c => ?_
  have hc := c.isLt
  rw [H]
  split
  · rename_i h
    refine mul_right ?_
    unfold kw kvOf
    split
    · congr 2
      · exact Fin.ext (by simp only at h ⊢; omega)
      · exact Fin.ext (by simp only at h ⊢; omega)
    · congr 2
      · exact Fin.ext (by simp only at h ⊢; omega)
      · exact Fin.ext (by simp only at h ⊢; omega)
  · rw [sub_eq_add_neg, EReal.bot_add]; exact zero_mul _

set_option backward.isDefEq.respectTransparency false in
/-- The scores of rows 32 to 63: the row's own head's, minus infinity elsewhere. -/
theorem score_hi (q : Vec Ideal S1x64x256 .bf16) (k : Vec Ideal S1x8192x128 .fp8e4m3) (s : Vec Ideal S32x1 .f32) (r : Fin 32) (c : Fin 2048) :
    k0_pay35 (F := Ideal) (k0_pay19 q) (k0_pay21 k) bias s (ix2 r c)
      = if c.val % 4 = r.val / 8 then sc q k (s (ix2 r 0)) ⟨32 + r.val, by have := r.isLt; omega⟩ ⟨c.val / 4, by have := c.isLt; omega⟩ else ⊥ := by
  have hr := r.isLt; have hc := c.isLt
  pointwise [k0_pay35, k0_pay19, k0_pay21]
  rw [bias_at]
  split
  · rename_i h
    rw [add_zero]
    unfold sc
    congr 1
    rw [Fin.sum_univ_two_halves 128 128 rfl]
    congr 1
    · refine Finset.sum_congr rfl fun x _ => ?_
      have hx := x.isLt
      unfold kw kvOf
      congr 3
      · exact Fin.ext (by simp only; omega)
      · exact Fin.ext (by simp only; omega)
    · refine Finset.sum_congr rfl fun x _ => ?_
      have hx := x.isLt
      unfold kw kvOf
      congr 3
      · exact Fin.ext (by simp only; omega)
      · exact Fin.ext (by simp only; omega)
  · exact EReal.add_bot _

set_option backward.isDefEq.respectTransparency false in
/-- The new maximum of rows 32 to 63. -/
theorem max_hi (q : Vec Ideal S1x64x256 .bf16) (k : Vec Ideal S1x8192x128 .fp8e4m3) (s mo : Vec Ideal S32x1 .f32) (r : Fin 32) :
    k0_pay36 (F := Ideal) (k0_pay19 q) (k0_pay21 k) bias s mo (ix2 r 0)
      = max (mo (ix2 r 0)) (Finset.univ.sup (sc q k (s (ix2 r 0)) ⟨32 + r.val, by have := r.isLt; omega⟩)) := by
  have hr := r.isLt
  have H := score_hi q k s r
  unfold k0_pay36
  generalize k0_pay35 (F := Ideal) (k0_pay19 q) (k0_pay21 k) bias s = S at H ⊢
  pointwise
  refine congrArg (max _) ?_
  show Finset.fold max (Ideal.ofBits .f32 0xFF800000#32) _ _ = _
  rw [ofBits_negInf]
  exact Attend.max_cols ⟨r.val / 8, by omega⟩ _ _ H

set_option backward.isDefEq.respectTransparency false in
/-- The new denominator of rows 32 to 63. -/
theorem den_hi (q : Vec Ideal S1x64x256 .bf16) (k : Vec Ideal S1x8192x128 .fp8e4m3) (s mo l : Vec Ideal S32x1 .f32) (r : Fin 32) (M : EReal)
    (hM : k0_pay36 (F := Ideal) (k0_pay19 q) (k0_pay21 k) bias s mo (ix2 r 0) = M) :
    k0_pay1 (F := Ideal) (k0_pay39 (k0_pay19 q) (k0_pay21 k) bias s mo l) (k0_pay40 (k0_pay19 q) (k0_pay21 k) bias s mo) (ix2 r 0)
      = l (ix2 r 0) * Ideal.exp (mo (ix2 r 0) - M) + ∑ j, Ideal.exp (sc q k (s (ix2 r 0)) ⟨32 + r.val, by have := r.isLt; omega⟩ j - M) := by
  have hr := r.isLt
  have H := score_hi q k s r
  unfold k0_pay1 k0_pay39 k0_pay40 k0_pay37 k0_pay38
  generalize k0_pay36 (F := Ideal) (k0_pay19 q) (k0_pay21 k) bias s mo = N at hM ⊢
  generalize k0_pay35 (F := Ideal) (k0_pay19 q) (k0_pay21 k) bias s = S at H ⊢
  pointwise
  rw [hM]
  refine add_right ?_
  refine Attend.sum_cols ⟨r.val / 8, by omega⟩ _ (fun j => Ideal.exp (sc q k (s (ix2 r 0)) ⟨32 + r.val, by have := r.isLt; omega⟩ j - M)) fun c => ?_
  rw [H]
  split
  · rfl
  · rw [sub_eq_add_neg, EReal.bot_add]; rfl

set_option backward.isDefEq.respectTransparency false in
/-- The new accumulator of rows 32 to 63. -/
theorem acc_hi (q : Vec Ideal S1x64x256 .bf16) (k v : Vec Ideal S1x8192x128 .fp8e4m3) (s mo vs : Vec Ideal S32x1 .f32) (a : Vec Ideal S32x256 .f32) (r : Fin 32)
    (d : Fin 256) (M : EReal) (hM : k0_pay36 (F := Ideal) (k0_pay19 q) (k0_pay21 k) bias s mo (ix2 r 0) = M) :
    k0_pay2 (F := Ideal) (k0_pay34 (k0_pay22 v)) (k0_pay37 (k0_pay19 q) (k0_pay21 k) bias s mo) (k0_pay38 (k0_pay19 q) (k0_pay21 k) bias s mo) a vs (ix2 r d)
      = a (ix2 r d) * Ideal.exp (mo (ix2 r 0) - M)
        + (∑ j, Ideal.exp (sc q k (s (ix2 r 0)) ⟨32 + r.val, by have := r.isLt; omega⟩ j - M) * kw v (kvOf ⟨32 + r.val, by have := r.isLt; omega⟩) j d) * vs (ix2 r 0) := by
  have hr := r.isLt; have hd := d.isLt
  have H := score_hi q k s r
  unfold k0_pay2 k0_pay34 k0_pay37 k0_pay38
  generalize k0_pay36 (F := Ideal) (k0_pay19 q) (k0_pay21 k) bias s mo = N at hM ⊢
  generalize k0_pay35 (F := Ideal) (k0_pay19 q) (k0_pay21 k) bias s = S at H ⊢
  pointwise [k0_pay22]
  rw [hM]
  refine add_mul_right ?_
  refine Attend.sum_cols ⟨r.val / 8, by omega⟩ _ (fun j => Ideal.exp (sc q k (s (ix2 r 0)) ⟨32 + r.val, by have := r.isLt; omega⟩ j - M) * kw v (kvOf ⟨32 + r.val, by have := r.isLt; omega⟩) j d) fun c => ?_
  have hc := c.isLt
  rw [H]
  split
  · rename_i h
    refine mul_right ?_
    unfold kw kvOf
    split
    · congr 2
      · exact Fin.ext (by simp only at h ⊢; omega)
      · exact Fin.ext (by simp only at h ⊢; omega)
    · congr 2
      · exact Fin.ext (by simp only at h ⊢; omega)
      · exact Fin.ext (by simp only at h ⊢; omega)
  · rw [sub_eq_add_neg, EReal.bot_add]; exact zero_mul _

end Cert.KernelIdeal.Idx

end
-- ==== Proof.Results.lean ====
/- What both programs compute, as functions of the argument arrays. -/
module

public import proofs.«01_k».proof.Proof.Attend

@[expose] public section

set_option maxRecDepth 16384

noncomputable section

namespace Cert.Attend

open Idealize.ShloMosaic

/-- The head that query row `r` reads. -/
def hd (r : Fin 64) : Fin 8 := ⟨r.val / 8, by have := r.isLt; omega⟩

/-- The place in the flat query of feature `e` of row `r`. -/
def flat (r : Fin 64) (e : Fin 256) : Fin 16384 := ⟨r.val * 256 + e.val, by have := r.isLt; have := e.isLt; omega⟩

/-- The attention output of batch `i`, query row `r`, feature `d`. -/
def yAt (X : Vec Ideal ⟨3, ![4, 1, 16384]⟩ .bf16) (KN VN : Vec Ideal ⟨4, ![4, 1, 8, 256]⟩ .bf16) (CK : Vec Ideal ⟨4, ![4, 32768, 8, 256]⟩ .fp8e4m3)
    (KS : Vec Ideal ⟨1, ![8]⟩ .f32) (CV : Vec Ideal ⟨4, ![4, 32768, 8, 256]⟩ .fp8e4m3) (VS : Vec Ideal ⟨1, ![8]⟩ .f32) (i : Fin 4) (r : Fin 64) (d : Fin 256) : EReal :=
  yOf (fun e => X (ix3 i 0 (flat r e))) (fun e => KN (ix4 i 0 (hd r) e)) (VN (ix4 i 0 (hd r) d)) (fun t e => CK (ix4 i t (hd r) e))
    (fun t => CV (ix4 i t (hd r) d)) (KS (ix1 (hd r))) (VS (ix1 (hd r)))

/-- The new code of batch `i`, head `h`, feature `e`. -/
def codeAt (N : Vec Ideal ⟨4, ![4, 1, 8, 256]⟩ .bf16) (s : Vec Ideal ⟨1, ![8]⟩ .f32) (i : Fin 4) (h : Fin 8) (e : Fin 256) : EReal :=
  code (N (ix4 i 0 h e)) (s (ix1 h))

end Cert.Attend

end
-- ==== Proof.KernelIn.lean ====
/- What the kernel's body reads at each grid point, at every index, as functions of the arguments. -/
module

public import proofs.«01_k».proof.Proof.KernelFrame
public import proofs.«01_k».proof.Proof.KernelIdx
public import proofs.«01_k».proof.Proof.Results

@[expose] public section

set_option maxRecDepth 16384

noncomputable section

namespace Cert.KernelIdeal.Run

open Cert.KernelIdeal.Gen
open Idealize.ShloMosaic Idealize.ShloMosaic.TcCoe Idealize.ShloMosaic.Tactic

section Arrays

variable {F : FTy → Type} [FloatOps F]
variable (m : (ℓ : Loc nD τ sig) → Buf (Elt F) ℓ) (c : Dev nD)

/-- The query rows the region finds. -/
theorem V_q : V m c main_v0 = shapeCast S4x64x256 (m ((c : Thread nD τ).loc main_arg0)) shapeCasts_S4x1x16384_S4x64x256 := by
  unfold_abbrev_sides
  after_results
  try rfl

/-- The new key rows the region finds. -/
theorem V_kn : V m c main_v1 = shapeCast S4x8x256 (m ((c : Thread nD τ).loc main_arg1)) shapeCasts_S4x1x8x256_S4x8x256 := by
  unfold_abbrev_sides
  after_results
  try rfl

/-- The new value rows the region finds. -/
theorem V_vn : V m c main_v2 = shapeCast S4x8x256 (m ((c : Thread nD τ).loc main_arg2)) shapeCasts_S4x1x8x256_S4x8x256 := by
  unfold_abbrev_sides
  after_results
  try rfl

/-- The key scales the region finds. -/
theorem V_ks : V m c main_v3 = shapeCast S8x1 (m ((c : Thread nD τ).loc main_arg4)) shapeCasts_S8_S8x1 := by
  unfold_abbrev_sides
  after_results
  try rfl

/-- The value scales the region finds. -/
theorem V_vs : V m c main_v4 = shapeCast S8x1 (m ((c : Thread nD τ).loc main_arg6)) shapeCasts_S8_S8x1 := by
  unfold_abbrev_sides
  after_results
  try rfl

/-- The cached key codes the region finds. -/
theorem V_k : V m c main_v7 = shapeCast S4x524288x128 (transpose S4x32768x2x8x128 [0, 1, 3, 2, 4]
    (shapeCast S4x32768x8x2x128 (m ((c : Thread nD τ).loc main_arg3)) shapeCasts_S4x32768x8x256_S4x32768x8x2x128) transposes_S4x32768x8x2x128_S4x32768x2x8x128_0_1_3_2_4)
    shapeCasts_S4x32768x2x8x128_S4x524288x128 := by
  unfold_abbrev_sides
  after_results
  try rfl

/-- The cached value codes the region finds. -/
theorem V_v : V m c main_v10 = shapeCast S4x524288x128 (transpose S4x32768x2x8x128 [0, 1, 3, 2, 4]
    (shapeCast S4x32768x8x2x128 (m ((c : Thread nD τ).loc main_arg5)) shapeCasts_S4x32768x8x256_S4x32768x8x2x128) transposes_S4x32768x8x2x128_S4x32768x2x8x128_0_1_3_2_4)
    shapeCasts_S4x32768x2x8x128_S4x524288x128 := by
  unfold_abbrev_sides
  after_results
  try rfl

/-- Which block of its array each input window reads at a point: the batch's for the first three, the whole for the scales, the batch's block of tokens for the caches. -/
theorem idx_in : ∀ t : Fin cfg0.N,
    (win0_0.index t (0 : Fin 3) = t.val / 64 ∧ win0_0.index t (1 : Fin 3) = 0 ∧ win0_0.index t (2 : Fin 3) = 0)
    ∧ (win0_1.index t (0 : Fin 3) = t.val / 64 ∧ win0_1.index t (1 : Fin 3) = 0 ∧ win0_1.index t (2 : Fin 3) = 0)
    ∧ (win0_2.index t (0 : Fin 3) = t.val / 64 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 64 ∧ win0_5.index t (1 : Fin 3) = t.val % 64 ∧ win0_5.index t (2 : Fin 3) = 0)
    ∧ (win0_6.index t (0 : Fin 3) = t.val / 64 ∧ win0_6.index t (1 : Fin 3) = t.val % 64 ∧ win0_6.index t (2 : Fin 3) = 0) :=
  (by decide +kernel : ∀ t : Fin grid0.N, _)

variable (t : Fin cfg0.N) (i : Fin 4) (n : Fin 64) (hi : t.val / 64 = i.val) (hn : t.val % 64 = n.val)
include hi

/-- The query block at an index. -/
theorem blk_q (r : Fin 64) (e : Fin 256) : (blk m c t).q (ix3 0 r e) = V m c main_v0 (ix3 i r e) := by
  obtain ⟨⟨e0, e1, e2⟩, -⟩ := idx_in t
  show V m c main_v0 (((cfg0.win 0).blk t).view.emb (ix3 0 r e)) = _
  refine congrArg (V m c main_v0) (funext fun a => Fin.ext ?_)
  match a with
  | ⟨0, _⟩ => show win0_0.index t (0 : Fin 3) * 1 + 1 * 0 = i.val; omega
  | ⟨1, _⟩ => show win0_0.index t (1 : Fin 3) * 64 + 1 * r.val = r.val; omega
  | ⟨2, _⟩ => show win0_0.index t (2 : Fin 3) * 256 + 1 * e.val = e.val; omega

/-- The new key block at an index. -/
theorem blk_kn (h : Fin 8) (e : Fin 256) : (blk m c t).kn (ix3 0 h e) = V m c main_v1 (ix3 i h e) := by
  obtain ⟨-, ⟨e0, e1, e2⟩, -⟩ := idx_in t
  show V m c main_v1 (((cfg0.win 1).blk t).view.emb (ix3 0 h e)) = _
  refine congrArg (V m c main_v1) (funext fun a => Fin.ext ?_)
  match a with
  | ⟨0, _⟩ => show win0_1.index t (0 : Fin 3) * 1 + 1 * 0 = i.val; omega
  | ⟨1, _⟩ => show win0_1.index t (1 : Fin 3) * 8 + 1 * h.val = h.val; omega
  | ⟨2, _⟩ => show win0_1.index t (2 : Fin 3) * 256 + 1 * e.val = e.val; omega

/-- The new value block at an index. -/
theorem blk_vn (h : Fin 8) (e : Fin 256) : (blk m c t).vn (ix3 0 h e) = V m c main_v2 (ix3 i h e) := by
  obtain ⟨-, -, ⟨e0, e1, e2⟩, -⟩ := idx_in t
  show V m c main_v2 (((cfg0.win 2).blk t).view.emb (ix3 0 h e)) = _
  refine congrArg (V m c main_v2) (funext fun a => Fin.ext ?_)
  match a with
  | ⟨0, _⟩ => show win0_2.index t (0 : Fin 3) * 1 + 1 * 0 = i.val; omega
  | ⟨1, _⟩ => show win0_2.index t (1 : Fin 3) * 8 + 1 * h.val = h.val; omega
  | ⟨2, _⟩ => show win0_2.index t (2 : Fin 3) * 256 + 1 * e.val = e.val; omega

omit hi in
/-- The key scales at an index. -/
theorem blk_ks (h : Fin 8) : (blk m c t).ks (ix2 h 0) = V m c main_v3 (ix2 h 0) := by
  obtain ⟨-, -, -, ⟨e0, e1⟩, -⟩ := idx_in t
  show V m c main_v3 (((cfg0.win 3).blk t).view.emb (ix2 h 0)) = _
  refine congrArg (V m c main_v3) (funext fun a => Fin.ext ?_)
  match a with
  | ⟨0, _⟩ => show win0_3.index t (0 : Fin 2) * 8 + 1 * h.val = h.val; omega
  | ⟨1, _⟩ => show win0_3.index t (1 : Fin 2) * 1 + 1 * 0 = 0; omega

omit hi in
/-- The value scales at an index. -/
theorem blk_vs (h : Fin 8) : (blk m c t).vs (ix2 h 0) = V m c main_v4 (ix2 h 0) := by
  obtain ⟨-, -, -, -, ⟨e0, e1⟩, -⟩ := idx_in t
  show V m c main_v4 (((cfg0.win 4).blk t).view.emb (ix2 h 0)) = _
  refine congrArg (V m c main_v4) (funext fun a => Fin.ext ?_)
  match a with
  | ⟨0, _⟩ => show win0_4.index t (0 : Fin 2) * 8 + 1 * h.val = h.val; omega
  | ⟨1, _⟩ => show win0_4.index t (1 : Fin 2) * 1 + 1 * 0 = 0; omega

include hn

/-- The key codes' block at an index. -/
theorem blk_k (p : Fin 8192) (e : Fin 128) :
    (blk m c t).k (ix3 0 p e) = V m c main_v7 (ix3 i ⟨n.val * 8192 + p.val, by have := n.isLt; have := p.isLt; omega⟩ e) := by
  obtain ⟨-, -, -, -, -, ⟨e0, e1, e2⟩, -⟩ := idx_in t
  show V m c main_v7 (((cfg0.win 5).blk t).view.emb (ix3 0 p e)) = _
  refine congrArg (V m c main_v7) (funext fun a => Fin.ext ?_)
  match a with
  | ⟨0, _⟩ => show win0_5.index t (0 : Fin 3) * 1 + 1 * 0 = i.val; omega
  | ⟨1, _⟩ => show win0_5.index t (1 : Fin 3) * 8192 + 1 * p.val = n.val * 8192 + p.val; omega
  | ⟨2, _⟩ => show win0_5.index t (2 : Fin 3) * 128 + 1 * e.val = e.val; omega

/-- The value codes' block at an index. -/
theorem blk_v (p : Fin 8192) (e : Fin 128) :
    (blk m c t).v (ix3 0 p e) = V m c main_v10 (ix3 i ⟨n.val * 8192 + p.val, by have := n.isLt; have := p.isLt; omega⟩ e) := by
  obtain ⟨-, -, -, -, -, -, ⟨e0, e1, e2⟩⟩ := idx_in t
  show V m c main_v10 (((cfg0.win 6).blk t).view.emb (ix3 0 p e)) = _
  refine congrArg (V m c main_v10) (funext fun a => Fin.ext ?_)
  match a with
  | ⟨0, _⟩ => show win0_6.index t (0 : Fin 3) * 1 + 1 * 0 = i.val; omega
  | ⟨1, _⟩ => show win0_6.index t (1 : Fin 3) * 8192 + 1 * p.val = n.val * 8192 + p.val; omega
  | ⟨2, _⟩ => show win0_6.index t (2 : Fin 3) * 128 + 1 * e.val = e.val; omega

end Arrays

/-! ## The same from the arguments -/

set_option backward.isDefEq.respectTransparency false in
/-- The query rows at an index. -/
theorem q_at (X : Vec Ideal S4x1x16384 .bf16) (i : Fin 4) (r : Fin 64) (e : Fin 256) :
    shapeCast S4x64x256 X shapeCasts_S4x1x16384_S4x64x256 (ix3 i r e) = X (ix3 i 0 (Attend.flat r e)) := by
  have hi := i.isLt; have hr := r.isLt; have he := e.isLt
  pointwise
  refine congrArg X ?_
  congr 1 <;> exact Fin.ext (by simp only [Attend.flat]; omega)

set_option backward.isDefEq.respectTransparency false in
/-- A new row at an index. -/
theorem new_at (N : Vec Ideal S4x1x8x256 .bf16) (i : Fin 4) (h : Fin 8) (e : Fin 256) :
    shapeCast S4x8x256 N shapeCasts_S4x1x8x256_S4x8x256 (ix3 i h e) = N (ix4 i 0 h e) := by
  have hi := i.isLt; have hh := h.isLt; have he := e.isLt
  pointwise

set_option backward.isDefEq.respectTransparency false in
/-- A scale at an index. -/
theorem scale_at (s : Vec Ideal S8 .f32) (h : Fin 8) : shapeCast S8x1 s shapeCasts_S8_S8x1 (ix2 h 0) = s (ix1 h) := by
  have hh := h.isLt
  pointwise

set_option backward.isDefEq.respectTransparency false in
/-- The caches, their features cut in halves and the halves laid head by head, at an index. -/
theorem cache_at (K : Vec Ideal S4x32768x8x256 .fp8e4m3) (i : Fin 4) (t : Fin 32768) (h : Fin 8) (e : Fin 256) (p : Fin 524288) (f : Fin 128)
    (hp : p.val = t.val * 16 + e.val / 128 * 8 + h.val) (hf : f.val = e.val % 128) :
    shapeCast S4x524288x128 (transpose S4x32768x2x8x128 [0, 1, 3, 2, 4] (shapeCast S4x32768x8x2x128 K shapeCasts_S4x32768x8x256_S4x32768x8x2x128)
      transposes_S4x32768x8x2x128_S4x32768x2x8x128_0_1_3_2_4) shapeCasts_S4x32768x2x8x128_S4x524288x128 (ix3 i p f) = K (ix4 i t h e) := by
  have hi := i.isLt; have hh := h.isLt; have he := e.isLt; have ht := t.isLt; have hp' := p.isLt; have hf' := f.isLt
  pointwise
  refine congrArg K ?_
  congr 1 <;> exact Fin.ext (by simp only; omega)

end Cert.KernelIdeal.Run

end
-- ==== Proof.KernelStep.lean ====
/- The kernel's carried state, read at a query row over the extended reals: how it starts and how one block changes it. -/
module

public import proofs.«01_k».proof.Proof.KernelIdx

@[expose] public section

set_option maxRecDepth 16384

noncomputable section

namespace Cert.KernelIdeal.Idx

open Cert.KernelIdeal.Gen Cert.KernelIdeal.Run
open Idealize.ShloMosaic Idealize.ShloMosaic.TcCoe Idealize.ShloMosaic.Tactic

/-- Row `r` of the lower half, among the 64. -/
abbrev lowRow (r : Fin 32) : Fin 64 := ⟨r.val, by have := r.isLt; omega⟩
/-- Row `r` of the upper half, among the 64. -/
abbrev highRow (r : Fin 32) : Fin 64 := ⟨32 + r.val, by have := r.isLt; omega⟩

/-- Every row is in one of the halves. -/
theorem rows (r : Fin 64) : (∃ p : Fin 32, r = lowRow p) ∨ (∃ p : Fin 32, r = highRow p) := by
  have hr := r.isLt
  by_cases h : r.val < 32
  · exact .inl ⟨⟨r.val, h⟩, rfl⟩
  · exact .inr ⟨⟨r.val - 32, by omega⟩, Fin.ext (by simp only; omega)⟩

/-- The lower half of a column at a row. -/
theorem lo_at (x : Vec Ideal S64x1 .f32) (r : Fin 32) : lo x (ix2 r 0) = x (ix2 (lowRow r) 0) := by
  refine congrArg x (funext fun a => Fin.ext ?_)
  match a with
  | ⟨0, _⟩ => show 0 + 1 * r.val = r.val; omega
  | ⟨1, _⟩ => rfl

/-- The upper half of a column at a row. -/
theorem hi_at (x : Vec Ideal S64x1 .f32) (r : Fin 32) : hi x (ix2 r 0) = x (ix2 (highRow r) 0) := by
  refine congrArg x (funext fun a => Fin.ext ?_)
  match a with
  | ⟨0, _⟩ => show 32 + 1 * r.val = 32 + r.val; omega
  | ⟨1, _⟩ => rfl

/-- The lower half of the accumulator at a row. -/
theorem loA_at (x : Vec Ideal S64x256 .f32) (r : Fin 32) (d : Fin 256) : loA x (ix2 r d) = x (ix2 (lowRow r) d) := by
  refine congrArg x (funext fun a => Fin.ext ?_)
  match a with
  | ⟨0, _⟩ => show 0 + 1 * r.val = r.val; omega
  | ⟨1, _⟩ => show 0 + 1 * d.val = d.val; omega

/-- The upper half of the accumulator at a row. -/
theorem hiA_at (x : Vec Ideal S64x256 .f32) (r : Fin 32) (d : Fin 256) : hiA x (ix2 r d) = x (ix2 (highRow r) d) := by
  refine congrArg x (funext fun a => Fin.ext ?_)
  match a with
  | ⟨0, _⟩ => show 32 + 1 * r.val = 32 + r.val; omega
  | ⟨1, _⟩ => show 0 + 1 * d.val = d.val; omega

/-- The two halves put together, at a lower row. -/
theorem both_lo (x : Vec Ideal S64x1 .f32) (a b : Vec Ideal S32x1 .f32) (r : Fin 32) : both x a b (ix2 (lowRow r) 0) = a (ix2 r 0) := by
  have hr := r.isLt
  unfold both VecWindow.put
  rw [dif_neg (fun h => by have h0 : 32 ≤ r.val := (h 0).1; omega), dif_pos (fun z => match z with
    | ⟨0, _⟩ => ⟨Nat.zero_le _, by show r.val < 0 + 32; omega⟩
    | ⟨1, _⟩ => ⟨Nat.zero_le _, by show 0 < 0 + 1; omega⟩)]
  refine congrArg a (funext fun z => Fin.ext ?_)
  match z with
  | ⟨0, _⟩ => show r.val - 0 = r.val; omega
  | ⟨1, _⟩ => rfl

/-- The two halves put together, at an upper row. -/
theorem both_hi (x : Vec Ideal S64x1 .f32) (a b : Vec Ideal S32x1 .f32) (r : Fin 32) : both x a b (ix2 (highRow r) 0) = b (ix2 r 0) := by
  have hr := r.isLt
  unfold both VecWindow.put
  rw [dif_pos (fun z => match z with
    | ⟨0, _⟩ => ⟨by show 32 ≤ 32 + r.val; omega, by show 32 + r.val < 32 + 32; omega⟩
    | ⟨1, _⟩ => ⟨Nat.zero_le _, by show 0 < 0 + 1; omega⟩)]
  refine congrArg b (funext fun z => Fin.ext ?_)
  match z with
  | ⟨0, _⟩ => show 32 + r.val - 32 = r.val; omega
  | ⟨1, _⟩ => rfl

/-- The two halves of the accumulator put together, at a lower row. -/
theorem bothA_lo (x : Vec Ideal S64x256 .f32) (a b : Vec Ideal S32x256 .f32) (r : Fin 32) (d : Fin 256) : bothA x a b (ix2 (lowRow r) d) = a (ix2 r d) := by
  have hr := r.isLt; have hd := d.isLt
  unfold bothA VecWindow.put
  rw [dif_neg (fun h => by have h0 : 32 ≤ r.val := (h 0).1; omega), dif_pos (fun z => match z with
    | ⟨0, _⟩ => ⟨Nat.zero_le _, by show r.val < 0 + 32; omega⟩
    | ⟨1, _⟩ => ⟨Nat.zero_le _, by show d.val < 0 + 256; omega⟩)]
  refine congrArg a (funext fun z => Fin.ext ?_)
  match z with
  | ⟨0, _⟩ => show r.val - 0 = r.val; omega
  | ⟨1, _⟩ => show d.val - 0 = d.val; omega

/-- The two halves of the accumulator put together, at an upper row. -/
theorem bothA_hi (x : Vec Ideal S64x256 .f32) (a b : Vec Ideal S32x256 .f32) (r : Fin 32) (d : Fin 256) : bothA x a b (ix2 (highRow r) d) = b (ix2 r d) := by
  have hr := r.isLt; have hd := d.isLt
  unfold bothA VecWindow.put
  rw [dif_pos (fun z => match z with
    | ⟨0, _⟩ => ⟨by show 32 ≤ 32 + r.val; omega, by show 32 + r.val < 32 + 32; omega⟩
    | ⟨1, _⟩ => ⟨Nat.zero_le _, by show d.val < 0 + 256; omega⟩)]
  refine congrArg b (funext fun z => Fin.ext ?_)
  match z with
  | ⟨0, _⟩ => show 32 + r.val - 32 = r.val; omega
  | ⟨1, _⟩ => show d.val - 0 = d.val; omega

/-- A cast of a column to its own shape leaves it. -/
theorem pay33_eq (x : FVec Ideal S32x1 .f32) : k0_pay33 (F := Ideal) x = x := shapeCast_self _ _
/-- A cast of a column to its own shape leaves it. -/
theorem pay3_eq (x : FVec Ideal S32x1 .f32) : k0_pay3 (F := Ideal) x = x := shapeCast_self _ _

variable (b : Blk Ideal) (s : St Ideal) (r : Fin 64) (d : Fin 256)

/-- One block's effect on a row's maximum. -/
theorem step_m : (stepS b s).m (ix2 r 0) = max (s.m (ix2 r 0)) (Finset.univ.sup (sc b.q b.k (s.ks (ix2 r 0)) r)) := by
  obtain ⟨p, rfl⟩ | ⟨p, rfl⟩ := rows r
  · refine (both_lo _ _ _ p).trans ?_
    rw [pay33_eq, max_lo, lo_at, lo_at]
  · refine (both_hi _ _ _ p).trans ?_
    rw [pay3_eq, max_hi, hi_at, hi_at]

/-- One block's effect on a row's denominator. -/
theorem step_l : (stepS b s).l (ix2 r 0) = s.l (ix2 r 0) * Ideal.exp (s.m (ix2 r 0) - (stepS b s).m (ix2 r 0))
    + ∑ j, Ideal.exp (sc b.q b.k (s.ks (ix2 r 0)) r j - (stepS b s).m (ix2 r 0)) := by
  rw [step_m]
  obtain ⟨p, rfl⟩ | ⟨p, rfl⟩ := rows r
  · refine (both_lo _ _ _ p).trans ?_
    rw [den_lo _ _ _ _ _ _ _ (max_lo _ _ _ _ _), lo_at, lo_at, lo_at]
  · refine (both_hi _ _ _ p).trans ?_
    rw [den_hi _ _ _ _ _ _ _ (max_hi _ _ _ _ _), hi_at, hi_at, hi_at]

/-- One block's effect on a row's accumulator. -/
theorem step_a : (stepS b s).a (ix2 r d) = s.a (ix2 r d) * Ideal.exp (s.m (ix2 r 0) - (stepS b s).m (ix2 r 0))
    + (∑ j, Ideal.exp (sc b.q b.k (s.ks (ix2 r 0)) r j - (stepS b s).m (ix2 r 0)) * kw b.v (kvOf r) j d) * s.vs (ix2 r 0) := by
  rw [step_m]
  obtain ⟨p, rfl⟩ | ⟨p, rfl⟩ := rows r
  · refine (bothA_lo _ _ _ p d).trans ?_
    rw [acc_lo _ _ _ _ _ _ _ _ _ _ (max_lo _ _ _ _ _), lo_at, lo_at, lo_at, loA_at]
  · refine (bothA_hi _ _ _ p d).trans ?_
    rw [acc_hi _ _ _ _ _ _ _ _ _ _ (max_hi _ _ _ _ _), hi_at, hi_at, hi_at, hiA_at]

/-- A sum over the heads in which only the row's own head counts. -/
theorem sum_own (f : Fin 8 → EReal) (g : EReal) (h : ∀ k, f k = if r.val / 8 = k.val then g else 0) : ∑ k, f k = g := by
  rw [Finset.sum_eq_single (kvOf r) (fun k _ hk => by rw [h, if_neg fun e => hk (Fin.ext e.symm)]) fun hk => absurd (Finset.mem_univ _) hk, h]
  exact if_pos rfl

/-- A mask bit as a number. -/
theorem one_at (p : Prop) [Decidable p] :
    (FloatOps.sitofp (F := Ideal) .f32 (BitVec.setWidth 32 (if p then 1#1 else 0#1)) : EReal) = if p then 1 else 0 := by
  split
  · show ((((BitVec.setWidth 32 1#1).toInt : ℤ) : ℝ) : EReal) = 1
    rw [show (BitVec.setWidth 32 1#1).toInt = 1 by decide]; simp
  · show ((((BitVec.setWidth 32 0#1).toInt : ℤ) : ℝ) : EReal) = 0
    rw [show (BitVec.setWidth 32 0#1).toInt = 0 by decide]; simp

set_option backward.isDefEq.respectTransparency false in
/-- The new key codes. -/
theorem kc_at (h : Fin 8) (e : Fin 256) : kcOf b (ix3 0 h e) = Attend.code (b.kn (ix3 0 h e)) (b.ks (ix2 h 0)) := by
  unfold kcOf
  pointwise [k0_pay9, k0_pay7, k0_pay5]
  rfl

set_option backward.isDefEq.respectTransparency false in
/-- The new value codes. -/
theorem vc_at (h : Fin 8) (e : Fin 256) : vcOf b (ix3 0 h e) = Attend.code (b.vn (ix3 0 h e)) (b.vs (ix2 h 0)) := by
  unfold vcOf
  pointwise [k0_pay10, k0_pay8, k0_pay6]
  rfl

set_option backward.isDefEq.respectTransparency false in
/-- The new keys, decoded. -/
theorem kd_at (h : Fin 8) (e : Fin 256) : k0_pay11 (F := Ideal) b.ks b.kn (ix2 h e) = Attend.code (b.kn (ix3 0 h e)) (b.ks (ix2 h 0)) * b.ks (ix2 h 0) := by
  pointwise [k0_pay11, k0_pay7, k0_pay5]
  rfl

set_option backward.isDefEq.respectTransparency false in
/-- The new values, decoded. -/
theorem vd_at (h : Fin 8) (e : Fin 256) : k0_pay12 (F := Ideal) b.vs b.vn (ix2 h e) = Attend.code (b.vn (ix3 0 h e)) (b.vs (ix2 h 0)) * b.vs (ix2 h 0) := by
  pointwise [k0_pay12, k0_pay8, k0_pay6]
  rfl

set_option backward.isDefEq.respectTransparency false in
/-- The maximum starts at the new token's score. -/
theorem init_m : (initS b).m (ix2 r 0)
    = (∑ e, b.q (ix3 0 r e) * (Attend.code (b.kn (ix3 0 (kvOf r) e)) (b.ks (ix2 (kvOf r) 0)) * b.ks (ix2 (kvOf r) 0))) * Attend.sm := by
  show k0_pay13 (k0_pay19 b.q) k0_pay20 (k0_pay11 b.ks b.kn) (ix2 r 0) = _
  have H := onehot_at r
  have K := kd_at b
  generalize k0_pay20 = v at H ⊢
  generalize k0_pay11 (F := Ideal) b.ks b.kn = k at K ⊢
  pointwise [k0_pay13, k0_pay19]
  refine sum_own r _ _ fun h => ?_
  rw [H]
  split
  · rename_i hh
    obtain rfl : h = kvOf r := Fin.ext hh.symm
    simp only [K]
    rfl
  · rfl

set_option backward.isDefEq.respectTransparency false in
/-- The denominator starts at one. -/
theorem init_l : (initS b).l (ix2 r 0) = 1 := by
  show k0_pay14 (F := Ideal) (ix2 r 0) = _
  pointwise [k0_pay14]

set_option backward.isDefEq.respectTransparency false in
/-- The accumulator starts at the new token's value. -/
theorem init_a : (initS b).a (ix2 r d) = Attend.code (b.vn (ix3 0 (kvOf r) d)) (b.vs (ix2 (kvOf r) 0)) * b.vs (ix2 (kvOf r) 0) := by
  show k0_pay15 k0_pay20 (k0_pay12 b.vs b.vn) (ix2 r d) = _
  have H := onehot_at r
  have K := vd_at b
  generalize k0_pay20 = v at H ⊢
  generalize k0_pay12 (F := Ideal) b.vs b.vn = k at K ⊢
  pointwise [k0_pay15]
  refine sum_own r _ _ fun h => ?_
  rw [H, one_at, K]
  split
  · rename_i hh
    obtain rfl : h = kvOf r := Fin.ext hh.symm
    exact one_mul _
  · exact zero_mul _

set_option backward.isDefEq.respectTransparency false in
/-- The row's score scale: its head's key scale times the softmax scale. -/
theorem init_ks : (initS b).ks (ix2 r 0) = b.ks (ix2 (kvOf r) 0) * Attend.sm := by
  show k0_pay17 k0_pay20 (k0_pay5 b.ks) (ix2 r 0) = _
  have H := onehot_at r
  generalize k0_pay20 = v at H ⊢
  pointwise [k0_pay17, k0_pay16, k0_pay5]
  refine congrArg (fun x : EReal => x * Attend.sm) (sum_own r _ _ fun h => ?_)
  rw [H, one_at]
  split
  · rename_i hh
    obtain rfl : h = kvOf r := Fin.ext hh.symm
    exact one_mul _
  · exact zero_mul _

set_option backward.isDefEq.respectTransparency false in
/-- The row's value scale: its head's. -/
theorem init_vs : (initS b).vs (ix2 r 0) = b.vs (ix2 (kvOf r) 0) := by
  show k0_pay18 k0_pay20 (k0_pay6 b.vs) (ix2 r 0) = _
  have H := onehot_at r
  generalize k0_pay20 = v at H ⊢
  pointwise [k0_pay18, k0_pay16, k0_pay6]
  refine sum_own r _ _ fun h => ?_
  rw [H, one_at]
  split
  · rename_i hh
    obtain rfl : h = kvOf r := Fin.ext hh.symm
    exact one_mul _
  · exact zero_mul _

set_option backward.isDefEq.respectTransparency false in
/-- The output: accumulator over denominator. -/
theorem fin_at : finY s (ix3 0 r d) = Ideal.div (s.a (ix2 r d)) (s.l (ix2 r 0)) := by
  unfold finY
  pointwise [k0_pay4]

end Cert.KernelIdeal.Idx

end
-- ==== Proof.KernelValue.lean ====
/- What the kernel's result arrays hold after the run, as functions of the state folded over the grid. -/
module

public import proofs.«01_k».proof.Proof.KernelFrame
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v11_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

set_option backward.proofsInPublic true in
/-- The place of an index of output 7 inside its block. -/
abbrev loc7Of (i : S4x64x256.Idx) : S1x64x256.Idx := fun a => match a with
  | ⟨0, _⟩ => ⟨(i 0).val % 1, Nat.mod_lt _ (by decide)⟩
  | ⟨1, _⟩ => ⟨(i 1).val % 64, Nat.mod_lt _ (by decide)⟩
  | ⟨2, _⟩ => ⟨(i 2).val % 256, Nat.mod_lt _ (by decide)⟩

/-- What output 7 ends holding: the quotient of the state after the last point of the batch. -/
def G7 (c : Dev nD) : Buf (Elt F) ((c : Thread nD τ).loc main_v11_0) := fun i => finY (sAt m c (64 * (i 0).val + 63)) (loc7Of i)

/-- The printed index map, decided over the grid: output window 7's block indices stay in the box, and the block number
    read off them is the point's (`t / 64`). -/
theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 0
    ∧ 0 ≤ win0_7.index t (2 : Fin 3) ∧ win0_7.index t (2 : Fin 3) ≤ 0
    ∧ 1 * (win0_7.index t (0 : Fin 3) - 0) + 1 * (win0_7.index t (1 : Fin 3) - 0) + 1 * (win0_7.index t (2 : Fin 3) - 0) = t.val / 64 :=
  (by decide +kernel : ∀ t : Fin grid0.N, _)

/-- Output window 7 is written back only at the last point of a batch. -/
theorem flushPt7 : ∀ t : Fin cfg0.N, (cfg0.win 7).flush t = true → t.val % 64 = 63 := by decide +kernel

/-- Every block of the box is SOME flushing point's: `onto7Pt`, the point that writes back the block at place `q` of the box (the last point of its run). -/
abbrev onto7Pt (q0 : Fin 4) (q1 : Fin 1) (q2 : Fin 1) : Fin grid0.N :=
  ⟨64 * (1 * q0.val + 1 * q1.val + 1 * q2.val) + 63, lt_of_lt_of_eq (by omega) N_0.symm⟩
/-- Every block of output window 7 is written back at some point. -/
theorem idx_onto7 : ∀ (q0 : Fin 4) (q1 : Fin 1) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 4) (q1 : Fin 1) (q2 : Fin 1), win0_7.flush (onto7Pt q0 q1 q2) = true ∧ win0_7.index (onto7Pt q0 q1 q2) = ![q0.val + 0, q1.val + 0, q2.val + 0]) q0 q1 q2⟩

/-- What a point that writes output 7 back leaves is its block of `G7`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have hm : t.val % 64 = 63 := flushPt7 t hf
  obtain ⟨e0, e1, e2, e3⟩ := idx_facts7 t
  funext y
  have hy0 : (y 0).val < 1 := (y 0).isLt
  have hy1 : (y 1).val < 64 := (y 1).isLt
  have hy2 : (y 2).val < 256 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 64 + 1 * (y 1).val := rfl
  have hb2 : (((cfg0.win 7).blk t).view.emb y 2).val = win0_7.index t (2 : Fin 3) * 256 + 1 * (y 2).val := rfl
  have hp : (((cfg0.win 7).blk t).view.emb y 0).val = t.val / 64 := by rw [hb0]; omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 64 = (y 1).val; rw [hb1]; omega
    | ⟨2, _⟩ => show (((cfg0.win 7).blk t).view.emb y 2).val % 256 = (y 2).val; rw [hb2]; omega
  show finY (sAt m c t.val) ((cfg0.win 7).xinj (grid0.coords t) y) = G7 m c (((cfg0.win 7).blk t).view.emb y)
  unfold G7
  rw [hp, hl, show 64 * (t.val / 64) + 63 = t.val from by omega]

/-- An index of the array is in point `t`'s block iff each coordinate is in the block's range on its axis. -/
theorem mem_blk7 (t : Fin cfg0.N) (i : S4x64x256.Idx) :
    i ∈ ((cfg0.win 7).blk t).view.set ↔ ∀ a : Fin 3, win0_7.index t a * S1x64x256.size a ≤ (i a).val ∧ (i a).val < win0_7.index t a * S1x64x256.size a + S1x64x256.size a := by
  show i ∈ ((View.whole main_v11_0).slice (win0_7.rect t)).set ↔ _
  rw [View.set_slice_whole, Rect.mem_set_unit]
  exact Iff.rfl

/-- THE COVERED INDICES: in some flushing point's block iff inside the box those blocks fill. -/
theorem covered_iff7 (i : S4x64x256.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 64 ∧ 0 ≤ (i 2).val ∧ (i 2).val < 256 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 64 ≤ (i 1).val ∧ (i 1).val < win0_7.index t (1 : Fin 3) * 64 + 64 := hi 1
    have b2 : win0_7.index t (2 : Fin 3) * 256 ≤ (i 2).val ∧ (i 2).val < win0_7.index t (2 : Fin 3) * 256 + 256 := hi 2
    obtain ⟨e0, e1, e2, e3⟩ := idx_facts7 t
    omega
  · intro h
    have hi0 : (i 0).val < 4 := (i 0).isLt
    have hi1 : (i 1).val < 64 := (i 1).isLt
    have hi2 : (i 2).val < 256 := (i 2).isLt
    obtain ⟨t, hft, ht⟩ := idx_onto7 ⟨(i 0).val / 1 - 0, by omega⟩ ⟨(i 1).val / 64 - 0, by omega⟩ ⟨(i 2).val / 256 - 0, by omega⟩
    have q0 : win0_7.index t (0 : Fin 3) = (i 0).val / 1 - 0 + 0 := congrFun ht 0
    have q1 : win0_7.index t (1 : Fin 3) = (i 1).val / 64 - 0 + 0 := congrFun ht 1
    have q2 : win0_7.index t (2 : Fin 3) = (i 2).val / 256 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 64 ≤ (i 1).val ∧ (i 1).val < win0_7.index t (1 : Fin 3) * 64 + 64; omega
    | ⟨2, _⟩ => show win0_7.index t (2 : Fin 3) * 256 ≤ (i 2).val ∧ (i 2).val < win0_7.index t (2 : Fin 3) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 64 := (i 1).isLt; have h2 : (i 2).val < 256 := (i 2).isLt; omega))

set_option backward.proofsInPublic true in
/-- The place of an index of output 8 inside its block. -/
abbrev loc8Of (i : S4x8x256.Idx) : S1x8x256.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 256, Nat.mod_lt _ (by decide)⟩

/-- What output 8 ends holding: the key codes of the batch's new rows. -/
def G8 (c : Dev nD) : Buf (Elt F) ((c : Thread nD τ).loc main_v11_1) := fun i => kcOf (blkN m c (64 * (i 0).val)) (loc8Of i)

/-- The printed index map, decided over the grid: output window 8's block indices stay in the box, and the block number
    read off them is the point's (`t / 64`). -/
theorem idx_facts8 : ∀ t : Fin cfg0.N, 0 ≤ win0_8.index t (0 : Fin 3) ∧ win0_8.index t (0 : Fin 3) ≤ 3
    ∧ 0 ≤ win0_8.index t (1 : Fin 3) ∧ win0_8.index t (1 : Fin 3) ≤ 0
    ∧ 0 ≤ win0_8.index t (2 : Fin 3) ∧ win0_8.index t (2 : Fin 3) ≤ 0
    ∧ 1 * (win0_8.index t (0 : Fin 3) - 0) + 1 * (win0_8.index t (1 : Fin 3) - 0) + 1 * (win0_8.index t (2 : Fin 3) - 0) = t.val / 64 :=
  (by decide +kernel : ∀ t : Fin grid0.N, _)

/-- Output window 8 is written back only at the last point of a batch. -/
theorem flushPt8 : ∀ t : Fin cfg0.N, (cfg0.win 8).flush t = true → t.val % 64 = 63 := by decide +kernel

/-- Every block of the box is SOME flushing point's: `onto8Pt`, the point that writes back the block at place `q` of the box (the last point of its run). -/
abbrev onto8Pt (q0 : Fin 4) (q1 : Fin 1) (q2 : Fin 1) : Fin grid0.N :=
  ⟨64 * (1 * q0.val + 1 * q1.val + 1 * q2.val) + 63, lt_of_lt_of_eq (by omega) N_0.symm⟩
/-- Every block of output window 8 is written back at some point. -/
theorem idx_onto8 : ∀ (q0 : Fin 4) (q1 : Fin 1) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 4) (q1 : Fin 1) (q2 : Fin 1), win0_8.flush (onto8Pt q0 q1 q2) = true ∧ win0_8.index (onto8Pt q0 q1 q2) = ![q0.val + 0, q1.val + 0, q2.val + 0]) q0 q1 q2⟩

/-- What a point that writes output 8 back leaves is its block of `G8`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have hm : t.val % 64 = 63 := flushPt8 t hf
  obtain ⟨e0, e1, e2, e3⟩ := idx_facts8 t
  funext y
  have hy0 : (y 0).val < 1 := (y 0).isLt
  have hy1 : (y 1).val < 8 := (y 1).isLt
  have hy2 : (y 2).val < 256 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 8 + 1 * (y 1).val := rfl
  have hb2 : (((cfg0.win 8).blk t).view.emb y 2).val = win0_8.index t (2 : Fin 3) * 256 + 1 * (y 2).val := rfl
  have hp : (((cfg0.win 8).blk t).view.emb y 0).val = t.val / 64 := by rw [hb0]; omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 8 = (y 1).val; rw [hb1]; omega
    | ⟨2, _⟩ => show (((cfg0.win 8).blk t).view.emb y 2).val % 256 = (y 2).val; rw [hb2]; omega
  show kcOf (blkN m c (t.val / 64 * 64)) ((cfg0.win 8).xinj (grid0.coords t) y) = G8 m c (((cfg0.win 8).blk t).view.emb y)
  unfold G8
  rw [hp, hl, show 64 * (t.val / 64) = t.val / 64 * 64 from by omega]

/-- An index of the array is in point `t`'s block iff each coordinate is in the block's range on its axis. -/
theorem mem_blk8 (t : Fin cfg0.N) (i : S4x8x256.Idx) :
    i ∈ ((cfg0.win 8).blk t).view.set ↔ ∀ a : Fin 3, win0_8.index t a * S1x8x256.size a ≤ (i a).val ∧ (i a).val < win0_8.index t a * S1x8x256.size a + S1x8x256.size a := by
  show i ∈ ((View.whole main_v11_1).slice (win0_8.rect t)).set ↔ _
  rw [View.set_slice_whole, Rect.mem_set_unit]
  exact Iff.rfl

/-- THE COVERED INDICES: in some flushing point's block iff inside the box those blocks fill. -/
theorem covered_iff8 (i : S4x8x256.Idx) :
    (∃ t : Fin cfg0.N, (cfg0.win 8).flush t = true ∧ i ∈ ((cfg0.win 8).blk t).view.set) ↔ 0 ≤ (i 0).val ∧ (i 0).val < 4 ∧ 0 ≤ (i 1).val ∧ (i 1).val < 8 ∧ 0 ≤ (i 2).val ∧ (i 2).val < 256 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 8 ≤ (i 1).val ∧ (i 1).val < win0_8.index t (1 : Fin 3) * 8 + 8 := hi 1
    have b2 : win0_8.index t (2 : Fin 3) * 256 ≤ (i 2).val ∧ (i 2).val < win0_8.index t (2 : Fin 3) * 256 + 256 := hi 2
    obtain ⟨e0, e1, e2, e3⟩ := idx_facts8 t
    omega
  · intro h
    have hi0 : (i 0).val < 4 := (i 0).isLt
    have hi1 : (i 1).val < 8 := (i 1).isLt
    have hi2 : (i 2).val < 256 := (i 2).isLt
    obtain ⟨t, hft, ht⟩ := idx_onto8 ⟨(i 0).val / 1 - 0, by omega⟩ ⟨(i 1).val / 8 - 0, by omega⟩ ⟨(i 2).val / 256 - 0, by omega⟩
    have q0 : win0_8.index t (0 : Fin 3) = (i 0).val / 1 - 0 + 0 := congrFun ht 0
    have q1 : win0_8.index t (1 : Fin 3) = (i 1).val / 8 - 0 + 0 := congrFun ht 1
    have q2 : win0_8.index t (2 : Fin 3) = (i 2).val / 256 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 8 ≤ (i 1).val ∧ (i 1).val < win0_8.index t (1 : Fin 3) * 8 + 8; omega
    | ⟨2, _⟩ => show win0_8.index t (2 : Fin 3) * 256 ≤ (i 2).val ∧ (i 2).val < win0_8.index t (2 : Fin 3) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 4 := (i 0).isLt; have h1 : (i 1).val < 8 := (i 1).isLt; have h2 : (i 2).val < 256 := (i 2).isLt; omega))

set_option backward.proofsInPublic true in
/-- The place of an index of output 9 inside its block. -/
abbrev loc9Of (i : S4x8x256.Idx) : S1x8x256.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 256, Nat.mod_lt _ (by decide)⟩

/-- What output 9 ends holding: the value codes of the batch's new rows. -/
def G9 (c : Dev nD) : Buf (Elt F) ((c : Thread nD τ).loc main_v11_2) := fun i => vcOf (blkN m c (64 * (i 0).val)) (loc9Of i)

/-- The printed index map, decided over the grid: output window 9's block indices stay in the box, and the block number
    read off them is the point's (`t / 64`). -/
theorem idx_facts9 : ∀ t : Fin cfg0.N, 0 ≤ win0_9.index t (0 : Fin 3) ∧ win0_9.index t (0 : Fin 3) ≤ 3
    ∧ 0 ≤ win0_9.index t (1 : Fin 3) ∧ win0_9.index t (1 : Fin 3) ≤ 0
    ∧ 0 ≤ win0_9.index t (2 : Fin 3) ∧ win0_9.index t (2 : Fin 3) ≤ 0
    ∧ 1 * (win0_9.index t (0 : Fin 3) - 0) + 1 * (win0_9.index t (1 : Fin 3) - 0) + 1 * (win0_9.index t (2 : Fin 3) - 0) = t.val / 64 :=
  (by decide +kernel : ∀ t : Fin grid0.N, _)

/-- Output window 9 is written back only at the last point of a batch. -/
theorem flushPt9 : ∀ t : Fin cfg0.N, (cfg0.win 9).flush t = true → t.val % 64 = 63 := by decide +kernel

/-- Every block of the box is SOME flushing point's: `onto9Pt`, the point that writes back the block at place `q` of the box (the last point of its run). -/
abbrev onto9Pt (q0 : Fin 4) (q1 : Fin 1) (q2 : Fin 1) : Fin grid0.N :=
  ⟨64 * (1 * q0.val + 1 * q1.val + 1 * q2.val) + 63, lt_of_lt_of_eq (by omega) N_0.symm⟩
/-- Every block of output window 9 is written back at some point. -/
theorem idx_onto9 : ∀ (q0 : Fin 4) (q1 : Fin 1) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 4) (q1 : Fin 1) (q2 : Fin 1), win0_9.flush (onto9Pt q0 q1 q2) = true ∧ win0_9.index (onto9Pt q0 q1 q2) = ![q0.val + 0, q1.val + 0, q2.val + 0]) q0 q1 q2⟩

/-- What a point that writes output 9 back leaves is its block of `G9`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  have hm : t.val % 64 = 63 := flushPt9 t hf
  obtain ⟨e0, e1, e2, e3⟩ := idx_facts9 t
  funext y
  have hy0 : (y 0).val < 1 := (y 0).isLt
  have hy1 : (y 1).val < 8 := (y 1).isLt
  have hy2 : (y 2).val < 256 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 8 + 1 * (y 1).val := rfl
  have hb2 : (((cfg0.win 9).blk t).view.emb y 2).val = win0_9.index t (2 : Fin 3) * 256 + 1 * (y 2).val := rfl
  have hp : (((cfg0.win 9).blk t).view.emb y 0).val = t.val / 64 := by rw [hb0]; omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 8 = (y 1).val; rw [hb1]; omega
    | ⟨2, _⟩ => show (((cfg0.win 9).blk t).view.emb y 2).val % 256 = (y 2).val; rw [hb2]; omega
  show vcOf (blkN m c (t.val / 64 * 64)) ((cfg0.win 9).xinj (grid0.coords t) y) = G9 m c (((cfg0.win 9).blk t).view.emb y)
  unfold G9
  rw [hp, hl, show 64 * (t.val / 64) = t.val / 64 * 64 from by omega]

/-- An index of the array is in point `t`'s block iff each coordinate is in the block's range on its axis. -/
theorem mem_blk9 (t : Fin cfg0.N) (i : S4x8x256.Idx) :
    i ∈ ((cfg0.win 9).blk t).view.set ↔ ∀ a : Fin 3, win0_9.index t a * S1x8x256.size a ≤ (i a).val ∧ (i a).val < win0_9.index t a * S1x8x256.size a + S1x8x256.size a := by
  show i ∈ ((View.whole main_v11_2).slice (win0_9.rect t)).set ↔ _
  rw [View.set_slice_whole, Rect.mem_set_unit]
  exact Iff.rfl

/-- THE COVERED INDICES: in some flushing point's block iff inside the box those blocks fill. -/
theorem covered_iff9 (i : S4x8x256.Idx) :
    (∃ t : Fin cfg0.N, (cfg0.win 9).flush t = true ∧ i ∈ ((cfg0.win 9).blk t).view.set) ↔ 0 ≤ (i 0).val ∧ (i 0).val < 4 ∧ 0 ≤ (i 1).val ∧ (i 1).val < 8 ∧ 0 ≤ (i 2).val ∧ (i 2).val < 256 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 8 ≤ (i 1).val ∧ (i 1).val < win0_9.index t (1 : Fin 3) * 8 + 8 := hi 1
    have b2 : win0_9.index t (2 : Fin 3) * 256 ≤ (i 2).val ∧ (i 2).val < win0_9.index t (2 : Fin 3) * 256 + 256 := hi 2
    obtain ⟨e0, e1, e2, e3⟩ := idx_facts9 t
    omega
  · intro h
    have hi0 : (i 0).val < 4 := (i 0).isLt
    have hi1 : (i 1).val < 8 := (i 1).isLt
    have hi2 : (i 2).val < 256 := (i 2).isLt
    obtain ⟨t, hft, ht⟩ := idx_onto9 ⟨(i 0).val / 1 - 0, by omega⟩ ⟨(i 1).val / 8 - 0, by omega⟩ ⟨(i 2).val / 256 - 0, by omega⟩
    have q0 : win0_9.index t (0 : Fin 3) = (i 0).val / 1 - 0 + 0 := congrFun ht 0
    have q1 : win0_9.index t (1 : Fin 3) = (i 1).val / 8 - 0 + 0 := congrFun ht 1
    have q2 : win0_9.index t (2 : Fin 3) = (i 2).val / 256 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 8 ≤ (i 1).val ∧ (i 1).val < win0_9.index t (1 : Fin 3) * 8 + 8; omega
    | ⟨2, _⟩ => show win0_9.index t (2 : Fin 3) * 256 ≤ (i 2).val ∧ (i 2).val < win0_9.index t (2 : Fin 3) * 256 + 256; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 4 := (i 0).isLt; have h1 : (i 1).val < 8 := (i 1).isLt; have h2 : (i 2).val < 256 := (i 2).isLt; omega))

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v11_0) = G7 m c
      ∧ r.2.mem ((c : Thread nD τ).loc main_v11_1) = G8 m c
      ∧ r.2.mem ((c : Thread nD τ).loc main_v11_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Run

end
-- ==== Proof.KernelVal.lean ====
/- The kernel's results, at every index, as functions of its arguments: the fold over a batch's 64 points, summed up. -/
module

public import proofs.«01_k».proof.Proof.KernelIn
public import proofs.«01_k».proof.Proof.KernelStep
public import proofs.«01_k».proof.Proof.KernelValue

@[expose] public section

set_option maxRecDepth 16384

noncomputable section

namespace Cert.KernelIdeal.Run

open Cert.KernelIdeal.Gen Cert.KernelIdeal.Idx
open Idealize.ShloMosaic Idealize.ShloMosaic.TcCoe Idealize.ShloMosaic.Tactic
open Attend (tk hd flat sm code mx acc)

variable (m : (ℓ : Loc nD τ sig) → Buf (Elt Ideal) ℓ) (c : Dev nD)

/-- The query argument. -/
abbrev aX : Vec Ideal S4x1x16384 .bf16 := m ((c : Thread nD τ).loc main_arg0)
/-- The new keys. -/
abbrev aKN : Vec Ideal S4x1x8x256 .bf16 := m ((c : Thread nD τ).loc main_arg1)
/-- The new values. -/
abbrev aVN : Vec Ideal S4x1x8x256 .bf16 := m ((c : Thread nD τ).loc main_arg2)
/-- The cached key codes. -/
abbrev aCK : Vec Ideal S4x32768x8x256 .fp8e4m3 := m ((c : Thread nD τ).loc main_arg3)
/-- The key scales. -/
abbrev aKS : Vec Ideal S8 .f32 := m ((c : Thread nD τ).loc main_arg4)
/-- The cached value codes. -/
abbrev aCV : Vec Ideal S4x32768x8x256 .fp8e4m3 := m ((c : Thread nD τ).loc main_arg5)
/-- The value scales. -/
abbrev aVS : Vec Ideal S8 .f32 := m ((c : Thread nD τ).loc main_arg6)

section Point

variable (i : Fin 4) (n : ℕ) (hn : n < 64)
include hn

/-- Point `64 i + n`, as a point of the grid. -/
theorem blkN_at : ∃ t : Fin cfg0.N, blkN m c (64 * i.val + n) = blk m c t ∧ t.val / 64 = i.val ∧ t.val % 64 = n := by
  have hi := i.isLt
  refine ⟨⟨64 * i.val + n, lt_of_lt_of_eq (by omega) N_0.symm⟩, blkN_eq m c ⟨64 * i.val + n, lt_of_lt_of_eq (by omega) N_0.symm⟩, ?_, ?_⟩
  · show (64 * i.val + n) / 64 = i.val; omega
  · show (64 * i.val + n) % 64 = n; omega

/-- The query rows at the point. -/
theorem in_q (r : Fin 64) (e : Fin 256) : (blkN m c (64 * i.val + n)).q (ix3 0 r e) = aX m c (ix3 i 0 (flat r e)) := by
  obtain ⟨t, ht, h1, h2⟩ := blkN_at m c i n hn
  rw [ht, blk_q m c t i h1, V_q, q_at]

/-- The new key rows at the point. -/
theorem in_kn (h : Fin 8) (e : Fin 256) : (blkN m c (64 * i.val + n)).kn (ix3 0 h e) = aKN m c (ix4 i 0 h e) := by
  obtain ⟨t, ht, h1, h2⟩ := blkN_at m c i n hn
  rw [ht, blk_kn m c t i h1, V_kn, new_at]

/-- The new value rows at the point. -/
theorem in_vn (h : Fin 8) (e : Fin 256) : (blkN m c (64 * i.val + n)).vn (ix3 0 h e) = aVN m c (ix4 i 0 h e) := by
  obtain ⟨t, ht, h1, h2⟩ := blkN_at m c i n hn
  rw [ht, blk_vn m c t i h1, V_vn, new_at]

/-- The key scales at the point. -/
theorem in_ks (h : Fin 8) : (blkN m c (64 * i.val + n)).ks (ix2 h 0) = aKS m c (ix1 h) := by
  obtain ⟨t, ht, h1, h2⟩ := blkN_at m c i n hn
  rw [ht, blk_ks m c t, V_ks, scale_at]

/-- The value scales at the point. -/
theorem in_vs (h : Fin 8) : (blkN m c (64 * i.val + n)).vs (ix2 h 0) = aVS m c (ix1 h) := by
  obtain ⟨t, ht, h1, h2⟩ := blkN_at m c i n hn
  rw [ht, blk_vs m c t, V_vs, scale_at]

/-- The cached key codes at the point: tokens `512 n` and on. -/
theorem in_k (h : Fin 8) (j : Fin 512) (e : Fin 256) : kw (blkN m c (64 * i.val + n)).k h j e = aCK m c (ix4 i (tk (n * 512 + j.val)) h e) := by
  have hj := j.isLt; have hh := h.isLt; have he := e.isLt
  obtain ⟨t, ht, h1, h2⟩ := blkN_at m c i n hn
  unfold kw
  rw [ht, blk_k m c t i ⟨n, hn⟩ h1 h2, V_k]
  refine cache_at _ i _ h e _ _ ?_ rfl
  show n * 8192 + (j.val * 16 + e.val / 128 * 8 + h.val) = (n * 512 + j.val) % 32768 * 16 + e.val / 128 * 8 + h.val
  omega

/-- The cached value codes at the point. -/
theorem in_v (h : Fin 8) (j : Fin 512) (e : Fin 256) : kw (blkN m c (64 * i.val + n)).v h j e = aCV m c (ix4 i (tk (n * 512 + j.val)) h e) := by
  have hj := j.isLt; have hh := h.isLt; have he := e.isLt
  obtain ⟨t, ht, h1, h2⟩ := blkN_at m c i n hn
  unfold kw
  rw [ht, blk_v m c t i ⟨n, hn⟩ h1 h2, V_v]
  refine cache_at _ i _ h e _ _ ?_ rfl
  show n * 8192 + (j.val * 16 + e.val / 128 * 8 + h.val) = (n * 512 + j.val) % 32768 * 16 + e.val / 128 * 8 + h.val
  omega

end Point

section Row

variable (i : Fin 4) (r : Fin 64) (d : Fin 256)

/-- The row's score of cached token `t`. -/
def scoreOf (t : Fin 32768) : EReal := (∑ e, aX m c (ix3 i 0 (flat r e)) * (aCK m c (ix4 i t (hd r) e) * aKS m c (ix1 (hd r)))) * sm
/-- The row's score of the new token. -/
def score0 : EReal := (∑ e, aX m c (ix3 i 0 (flat r e)) * (code (aKN m c (ix4 i 0 (hd r) e)) (aKS m c (ix1 (hd r))) * aKS m c (ix1 (hd r)))) * sm
/-- The new token's value for the row. -/
def value0 : EReal := code (aVN m c (ix4 i 0 (hd r) d)) (aVS m c (ix1 (hd r))) * aVS m c (ix1 (hd r))
/-- The scores, block by block. -/
def scores (n : ℕ) (j : Fin 512) : EReal := scoreOf m c i r (tk (n * 512 + j.val))
/-- The cached value codes, block by block. -/
def vals (n : ℕ) (j : Fin 512) : EReal := aCV m c (ix4 i (tk (n * 512 + j.val)) (hd r) d)

/-- What a state holds for the row after `n` blocks. -/
structure Holds (s : St Ideal) (n : ℕ) : Prop where
  row_ks : s.ks (ix2 r 0) = aKS m c (ix1 (hd r)) * sm
  row_vs : s.vs (ix2 r 0) = aVS m c (ix1 (hd r))
  row_m : s.m (ix2 r 0) = mx (score0 m c i r) (scores m c i r) n
  row_l : s.l (ix2 r 0) = acc (score0 m c i r) 1 1 (scores m c i r) (fun _ _ => 1) n
  row_a : s.a (ix2 r d) = acc (score0 m c i r) (value0 m c i r d) (aVS m c (ix1 (hd r))) (scores m c i r) (vals m c i r d) n

/-- The state a batch starts from holds it for no block. -/
theorem init_holds (n : ℕ) (hn : n < 64) : Holds m c i r d (initS (blkN m c (64 * i.val + n))) 0 where
  row_ks := by rw [init_ks, in_ks m c i n hn]; rfl
  row_vs := by rw [init_vs, in_vs m c i n hn]; rfl
  row_m := by
    rw [init_m, in_ks m c i n hn]
    simp only [in_q m c i n hn, in_kn m c i n hn]
    rfl
  row_l := init_l _ _
  row_a := by rw [init_a, in_vs m c i n hn, in_vn m c i n hn]; rfl

/-- The point's block scores the tokens it holds. -/
theorem sc_eq (n : ℕ) (hn : n < 64) (h0 : 0 ≤ aKS m c (ix1 (hd r))) (ht : aKS m c (ix1 (hd r)) ≠ ⊤) :
    sc (blkN m c (64 * i.val + n)).q (blkN m c (64 * i.val + n)).k (aKS m c (ix1 (hd r)) * sm) r = scores m c i r n := by
  funext j
  unfold sc
  simp only [in_q m c i n hn, in_k m c i n hn]
  exact Attend.score_scale _ _ h0 ht

/-- One block carries it on. -/
theorem step_holds (n : ℕ) (hn : n < 64) (h0 : 0 ≤ aKS m c (ix1 (hd r))) (ht : aKS m c (ix1 (hd r)) ≠ ⊤) (s : St Ideal) (H : Holds m c i r d s n) :
    Holds m c i r d (stepS (blkN m c (64 * i.val + n)) s) (n + 1) := by
  have hm : (stepS (blkN m c (64 * i.val + n)) s).m (ix2 r 0) = mx (score0 m c i r) (scores m c i r) (n + 1) := by
    rw [step_m, H.row_ks, sc_eq m c i r n hn h0 ht, H.row_m]; rfl
  refine ⟨H.row_ks, H.row_vs, hm, ?_, ?_⟩
  · rw [step_l, hm, H.row_ks, sc_eq m c i r n hn h0 ht, H.row_m, H.row_l]
    simp only [acc, mul_one]
  · rw [step_a, hm, H.row_ks, sc_eq m c i r n hn h0 ht, H.row_m, H.row_a, H.row_vs]
    simp only [in_v m c i n hn]
    rfl

/-- After the first `n + 1` points of a batch the carried state holds it for `n + 1` blocks. -/
theorem sAt_holds (h0 : 0 ≤ aKS m c (ix1 (hd r))) (ht : aKS m c (ix1 (hd r)) ≠ ⊤) :
    ∀ n, n < 64 → Holds m c i r d (sAt m c (64 * i.val + n)) (n + 1)
  | 0, hn => by
    rw [sAt_first m c _ (by omega)]
    exact step_holds m c i r d 0 hn h0 ht _ (init_holds m c i r d 0 hn)
  | n + 1, hn => by
    rw [sAt_next m c _ (by omega)]
    exact step_holds m c i r d (n + 1) hn h0 ht _ (sAt_holds h0 ht n (by omega))

end Row

/-- The attention rows the kernel leaves. -/
theorem G7_at (h0 : ∀ h : Fin 8, 0 ≤ aKS m c (ix1 h) ∧ aKS m c (ix1 h) ≠ ⊤) (h1 : ∀ h : Fin 8, 0 ≤ aVS m c (ix1 h) ∧ aVS m c (ix1 h) ≠ ⊤)
    (i : Fin 4) (r : Fin 64) (d : Fin 256) :
    G7 m c (ix3 i r d) = Attend.yAt (aX m c) (aKN m c) (aVN m c) (aCK m c) (aKS m c) (aCV m c) (aVS m c) i r d := by
  have hr := r.isLt; have hd' := d.isLt
  have H : Holds m c i r d (sAt m c (64 * i.val + 63)) 64 := sAt_holds m c i r d (h0 _).1 (h0 _).2 63 (by decide)
  have e : loc7Of (ix3 i r d) = ix3 0 r d := by
    funext a; apply Fin.ext
    match a with
    | ⟨0, _⟩ => show i.val % 1 = 0; omega
    | ⟨1, _⟩ => show r.val % 64 = r.val; omega
    | ⟨2, _⟩ => show d.val % 256 = d.val; omega
  show finY (sAt m c (64 * i.val + 63)) (loc7Of (ix3 i r d)) = _
  rw [e, fin_at, H.row_a, H.row_l]
  have K := Attend.online (score0 m c i r) (value0 m c i r d) (aVS m c (ix1 (hd r))) (h1 _).1 (h1 _).2 (scoreOf m c i r) fun t => aCV m c (ix4 i t (hd r) d)
  exact K

/-- The new key codes the kernel leaves. -/
theorem G8_at (i : Fin 4) (h : Fin 8) (e : Fin 256) : G8 m c (ix3 i h e) = Attend.codeAt (aKN m c) (aKS m c) i h e := by
  have hh := h.isLt; have he := e.isLt
  have e' : loc8Of (ix3 i h e) = ix3 0 h e := by
    funext a; apply Fin.ext
    match a with
    | ⟨0, _⟩ => show i.val % 1 = 0; omega
    | ⟨1, _⟩ => show h.val % 8 = h.val; omega
    | ⟨2, _⟩ => show e.val % 256 = e.val; omega
  show kcOf (blkN m c (64 * i.val + 0)) (loc8Of (ix3 i h e)) = _
  rw [e', kc_at, in_kn m c i 0 (by decide), in_ks m c i 0 (by decide)]
  rfl

/-- The new value codes the kernel leaves. -/
theorem G9_at (i : Fin 4) (h : Fin 8) (e : Fin 256) : G9 m c (ix3 i h e) = Attend.codeAt (aVN m c) (aVS m c) i h e := by
  have hh := h.isLt; have he := e.isLt
  have e' : loc9Of (ix3 i h e) = ix3 0 h e := by
    funext a; apply Fin.ext
    match a with
    | ⟨0, _⟩ => show i.val % 1 = 0; omega
    | ⟨1, _⟩ => show h.val % 8 = h.val; omega
    | ⟨2, _⟩ => show e.val % 256 = e.val; omega
  show vcOf (blkN m c (64 * i.val + 0)) (loc9Of (ix3 i h e)) = _
  rw [e', vc_at, in_vn m c i 0 (by decide), in_vs m c i 0 (by decide)]
  rfl

end Cert.KernelIdeal.Run

end
-- ==== Proof.ReferenceRun.lean ====
/- The reference's result arrays after its run, named, and its arguments kept. -/
module

public import proofs.«01_k».proof.Proof.Gen.ReferenceIdeal.Frame
public import Idealize.ShloMosaic.Lib.Pipeline.Value

@[expose] public section

set_option maxRecDepth 16384

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x64x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x8x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S4x8x256.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v13_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v13_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v13_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 7 cfg0.N
      ∧ r.2.mem ((c : Thread nD τ).loc main_v13_1) = (dats m 0 c).arrAt 8 cfg0.N
      ∧ r.2.mem ((c : Thread nD τ).loc main_v13_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## The arrays the region finds, from the arguments -/

/-- The query rows, one group of eight per cached head. -/
theorem V_q (c : Dev nD) : V m c main_v0 = shapeCast S32x8x256 (m ((c : Thread nD τ).loc main_arg0)) shapeCasts_S4x1x16384_S32x8x256 := by
  unfold_abbrev_sides
  after_results
  try rfl

/-- The new rows, head by head. -/
theorem V_kn (c : Dev nD) : V m c main_v2 = shapeCast S32x1x256 (transpose S4x8x1x256 [0, 2, 1, 3] (m ((c : Thread nD τ).loc main_arg1)) transposes_S4x1x8x256_S4x8x1x256_0_2_1_3) shapeCasts_S4x8x1x256_S32x1x256 := by
  unfold_abbrev_sides
  after_results
  try rfl

/-- The new rows, head by head. -/
theorem V_vn (c : Dev nD) : V m c main_v4 = shapeCast S32x1x256 (transpose S4x8x1x256 [0, 2, 1, 3] (m ((c : Thread nD τ).loc main_arg2)) transposes_S4x1x8x256_S4x8x1x256_0_2_1_3) shapeCasts_S4x8x1x256_S32x1x256 := by
  unfold_abbrev_sides
  after_results
  try rfl

/-- The scales, one per batch and head. -/
theorem V_ks (c : Dev nD) : V m c main_v6 = shapeCast S32x1x1 (broadcastInDim S4x8 ![1] bcast_S8_S4x8_1 (m ((c : Thread nD τ).loc main_arg4))) shapeCasts_S4x8_S32x1x1 := by
  unfold_abbrev_sides
  after_results
  try rfl

/-- The scales, one per batch and head. -/
theorem V_vs (c : Dev nD) : V m c main_v8 = shapeCast S32x1x1 (broadcastInDim S4x8 ![1] bcast_S8_S4x8_1 (m ((c : Thread nD τ).loc main_arg6))) shapeCasts_S4x8_S32x1x1 := by
  unfold_abbrev_sides
  after_results
  try rfl

/-- The cached codes, head by head. -/
theorem V_k (c : Dev nD) : V m c main_v10 = shapeCast S32x32768x256 (transpose S4x8x32768x256 [0, 2, 1, 3] (m ((c : Thread nD τ).loc main_arg3)) transposes_S4x32768x8x256_S4x8x32768x256_0_2_1_3) shapeCasts_S4x8x32768x256_S32x32768x256 := by
  unfold_abbrev_sides
  after_results
  try rfl

/-- The cached codes, head by head. -/
theorem V_v (c : Dev nD) : V m c main_v12 = shapeCast S32x32768x256 (transpose S4x8x32768x256 [0, 2, 1, 3] (m ((c : Thread nD τ).loc main_arg5)) transposes_S4x32768x8x256_S4x8x32768x256_0_2_1_3) shapeCasts_S4x8x32768x256_S32x32768x256 := by
  unfold_abbrev_sides
  after_results
  try rfl

/-! ## The one point's blocks are the whole arrays -/

/-- Window 0's block is its array. -/
theorem iblk0 (c : Dev nD) (t : Fin cfg0.N) : iblk m c 0 t = V m c main_v0 := by
  funext y
  show V m c main_v0 (((cfg0.win 0).blk t).view.emb y) = V m c main_v0 y
  refine congrArg (V m c main_v0) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 1's block is its array. -/
theorem iblk1 (c : Dev nD) (t : Fin cfg0.N) : iblk m c 1 t = V m c main_v2 := by
  funext y
  show V m c main_v2 (((cfg0.win 1).blk t).view.emb y) = V m c main_v2 y
  refine congrArg (V m c main_v2) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 2's block is its array. -/
theorem iblk2 (c : Dev nD) (t : Fin cfg0.N) : iblk m c 2 t = V m c main_v4 := by
  funext y
  show V m c main_v4 (((cfg0.win 2).blk t).view.emb y) = V m c main_v4 y
  refine congrArg (V m c main_v4) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 3's block is its array. -/
theorem iblk3 (c : Dev nD) (t : Fin cfg0.N) : iblk m c 3 t = V m c main_v6 := by
  funext y
  show V m c main_v6 (((cfg0.win 3).blk t).view.emb y) = V m c main_v6 y
  refine congrArg (V m c main_v6) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 4's block is its array. -/
theorem iblk4 (c : Dev nD) (t : Fin cfg0.N) : iblk m c 4 t = V m c main_v8 := by
  funext y
  show V m c main_v8 (((cfg0.win 4).blk t).view.emb y) = V m c main_v8 y
  refine congrArg (V m c main_v8) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 5's block is its array. -/
theorem iblk5 (c : Dev nD) (t : Fin cfg0.N) : iblk m c 5 t = V m c main_v10 := by
  funext y
  show V m c main_v10 (((cfg0.win 5).blk t).view.emb y) = V m c main_v10 y
  refine congrArg (V m c main_v10) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- Window 6's block is its array. -/
theorem iblk6 (c : Dev nD) (t : Fin cfg0.N) : iblk m c 6 t = V m c main_v12 := by
  funext y
  show V m c main_v12 (((cfg0.win 6).blk t).view.emb y) = V m c main_v12 y
  refine congrArg (V m c main_v12) (funext fun b => Fin.ext ?_)
  match b with
  | ⟨0, _⟩ => exact (show 0 * _ + 1 * (y 0).val = (y 0).val by omega)
  | ⟨1, _⟩ => exact (show 0 * _ + 1 * (y 1).val = (y 1).val by omega)
  | ⟨2, _⟩ => exact (show 0 * _ + 1 * (y 2).val = (y 2).val by omega)

/-- The attention rows the reference leaves, as a function of the arrays the region finds. -/
def G7 (c : Dev nD) : Buf (Elt F) ((c : Thread nD τ).loc main_v13_0) := k0_pay1 (k0_pay5 (V m c main_v8)) (k0_pay7 (V m c main_v8) (V m c main_v4)) (k0_pay8 (V m c main_v6) (V m c main_v2) (V m c main_v10)) (k0_pay9 (V m c main_v12)) (V m c main_v0)

/-- The body's result for window 7. -/
theorem out7_eq (c : Dev nD) (t : Fin cfg0.N) : (dats m 0 c).after 7 t = G7 m c := by
  rw [after0_7, iblk0, iblk1, iblk2, iblk3, iblk4, iblk5, iblk6]
  unfold out0_7 k0_pay10 G7
  refine (View.canon_unit_zero (by funext a; match a with | ⟨0, _⟩ => rfl | ⟨1, _⟩ => rfl | ⟨2, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl)]

/-- After the run, output window 7's array holds it. -/
theorem final7 (c : Dev nD) : (dats m 0 c).arrAt 7 cfg0.N = G7 m c := by
  have hf : ∀ t : Fin cfg0.N, (cfg0.win 7).flush t = true := by decide +kernel
  have hemb : ∀ (t : Fin cfg0.N) (y : S4x64x256.Idx), ((cfg0.win 7).blk t).view.emb y = y := by
    intro t y
    funext b; apply Fin.ext
    match b with
    | ⟨0, _⟩ => exact (show 0 * _ + 1 * (y 0).val = (y 0).val by omega)
    | ⟨1, _⟩ => exact (show 0 * _ + 1 * (y 1).val = (y 1).val by omega)
    | ⟨2, _⟩ => exact (show 0 * _ + 1 * (y 2).val = (y 2).val by omega)
  refine (dats m 0 c).arrAt_eq_of_cover 7 _ (fun t _ => ?_) (fun i => ⟨t0_0, hf _, ?_⟩)
  · show (cfg0.win 7).cut (grid0.coords t) ((dats m 0 c).after 7 t) = _
    rw [out7_eq]
    funext y
    show G7 m c ((cfg0.win 7).xinj (grid0.coords t) y) = G7 m c (((cfg0.win 7).blk t).view.emb y)
    exact congrArg (G7 m c) ((hemb t y).symm ▸ rfl)
  · exact Finset.mem_map.2 ⟨i, Finset.mem_univ _, hemb t0_0 i⟩

/-- The key codes the reference leaves, as a function of the arrays the region finds. -/
def G8 (c : Dev nD) : Buf (Elt F) ((c : Thread nD τ).loc main_v13_1) := k0_pay2 (k0_pay6 (V m c main_v6) (V m c main_v2))

/-- The body's result for window 8. -/
theorem out8_eq (c : Dev nD) (t : Fin cfg0.N) : (dats m 0 c).after 8 t = G8 m c := by
  rw [after0_8, iblk0, iblk1, iblk2, iblk3, iblk4, iblk5, iblk6]
  unfold out0_8 G8
  refine (View.canon_unit_zero (by funext a; match a with | ⟨0, _⟩ => rfl | ⟨1, _⟩ => rfl | ⟨2, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl)]

/-- After the run, output window 8's array holds it. -/
theorem final8 (c : Dev nD) : (dats m 0 c).arrAt 8 cfg0.N = G8 m c := by
  have hf : ∀ t : Fin cfg0.N, (cfg0.win 8).flush t = true := by decide +kernel
  have hemb : ∀ (t : Fin cfg0.N) (y : S4x8x256.Idx), ((cfg0.win 8).blk t).view.emb y = y := by
    intro t y
    funext b; apply Fin.ext
    match b with
    | ⟨0, _⟩ => exact (show 0 * _ + 1 * (y 0).val = (y 0).val by omega)
    | ⟨1, _⟩ => exact (show 0 * _ + 1 * (y 1).val = (y 1).val by omega)
    | ⟨2, _⟩ => exact (show 0 * _ + 1 * (y 2).val = (y 2).val by omega)
  refine (dats m 0 c).arrAt_eq_of_cover 8 _ (fun t _ => ?_) (fun i => ⟨t0_0, hf _, ?_⟩)
  · show (cfg0.win 8).cut (grid0.coords t) ((dats m 0 c).after 8 t) = _
    rw [out8_eq]
    funext y
    show G8 m c ((cfg0.win 8).xinj (grid0.coords t) y) = G8 m c (((cfg0.win 8).blk t).view.emb y)
    exact congrArg (G8 m c) ((hemb t y).symm ▸ rfl)
  · exact Finset.mem_map.2 ⟨i, Finset.mem_univ _, hemb t0_0 i⟩

/-- The value codes the reference leaves, as a function of the arrays the region finds. -/
def G9 (c : Dev nD) : Buf (Elt F) ((c : Thread nD τ).loc main_v13_2) := k0_pay3 (k0_pay7 (V m c main_v8) (V m c main_v4))

/-- The body's result for window 9. -/
theorem out9_eq (c : Dev nD) (t : Fin cfg0.N) : (dats m 0 c).after 9 t = G9 m c := by
  rw [after0_9, iblk0, iblk1, iblk2, iblk3, iblk4, iblk5, iblk6]
  unfold out0_9 k0_pay10 G9
  refine (View.canon_unit_zero (by funext a; match a with | ⟨0, _⟩ => rfl | ⟨1, _⟩ => rfl | ⟨2, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl)]

/-- After the run, output window 9's array holds it. -/
theorem final9 (c : Dev nD) : (dats m 0 c).arrAt 9 cfg0.N = G9 m c := by
  have hf : ∀ t : Fin cfg0.N, (cfg0.win 9).flush t = true := by decide +kernel
  have hemb : ∀ (t : Fin cfg0.N) (y : S4x8x256.Idx), ((cfg0.win 9).blk t).view.emb y = y := by
    intro t y
    funext b; apply Fin.ext
    match b with
    | ⟨0, _⟩ => exact (show 0 * _ + 1 * (y 0).val = (y 0).val by omega)
    | ⟨1, _⟩ => exact (show 0 * _ + 1 * (y 1).val = (y 1).val by omega)
    | ⟨2, _⟩ => exact (show 0 * _ + 1 * (y 2).val = (y 2).val by omega)
  refine (dats m 0 c).arrAt_eq_of_cover 9 _ (fun t _ => ?_) (fun i => ⟨t0_0, hf _, ?_⟩)
  · show (cfg0.win 9).cut (grid0.coords t) ((dats m 0 c).after 9 t) = _
    rw [out9_eq]
    funext y
    show G9 m c ((cfg0.win 9).xinj (grid0.coords t) y) = G9 m c (((cfg0.win 9).blk t).view.emb y)
    exact congrArg (G9 m c) ((hemb t y).symm ▸ rfl)
  · exact Finset.mem_map.2 ⟨i, Finset.mem_univ _, hemb t0_0 i⟩

/-- The reference's run: its three computed results, and its arguments kept. -/
theorem run : θ_run defs (onTc (τ := τ) (main (F := F))) ⟨m, fun _ => 0, ρ⟩ fun r => ∀ c : Dev nD,
      r.2.mem ((c : Thread nD τ).loc main_v13_0) = G7 m c
      ∧ r.2.mem ((c : Thread nD τ).loc main_v13_1) = G8 m c
      ∧ r.2.mem ((c : Thread nD τ).loc main_v13_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c), (h c).2.2.2⟩)
    (run_blocks m ρ)

end Cert.ReferenceIdeal.Run

end
-- ==== Proof.ReferenceIdx.lean ====
/- The reference's results, read at an index over the extended reals, as functions of its arguments. -/
module

public import proofs.«01_k».proof.Proof.ReferenceRun
public import proofs.«01_k».proof.Proof.Attend

@[expose] public section

set_option maxRecDepth 16384

noncomputable section

namespace Cert.ReferenceIdeal.Idx

open Cert.ReferenceIdeal.Gen
open Idealize.ShloMosaic Idealize.ShloMosaic.TcCoe Idealize.ShloMosaic.Tactic

/-- The word of minus infinity. -/
theorem ofBits_negInf : Ideal.ofBits .f32 0xFF800000#32 = ⊥ := by simp [Ideal.ofBits, Ideal.ieee]

set_option backward.isDefEq.respectTransparency false in
/-- The new codes. -/
theorem codes_at (s : Vec Ideal S32x1x1 .f32) (x : Vec Ideal S32x1x256 .bf16) (b : Fin 32) (e : Fin 256) :
    k0_pay6 (F := Ideal) s x (ix3 b 0 e) = Attend.code (x (ix3 b 0 e)) (s (ix3 b 0 0)) := by
  pointwise [k0_pay6, k0_pay4]
  rfl

set_option backward.isDefEq.respectTransparency false in
/-- The new value codes. -/
theorem vcodes_at (s : Vec Ideal S32x1x1 .f32) (x : Vec Ideal S32x1x256 .bf16) (b : Fin 32) (e : Fin 256) :
    k0_pay7 (F := Ideal) s x (ix3 b 0 e) = Attend.code (x (ix3 b 0 e)) (s (ix3 b 0 0)) := by
  pointwise [k0_pay7, k0_pay5]
  rfl

set_option backward.isDefEq.respectTransparency false in
/-- The keys, cached then new, scaled. -/
theorem keys_at (s : Vec Ideal S32x1x1 .f32) (x : Vec Ideal S32x1x256 .bf16) (k : Vec Ideal S32x32768x256 .fp8e4m3) (b : Fin 32) (t : Fin 32769) (e : Fin 256) :
    k0_pay8 (F := Ideal) s x k (ix3 b t e)
      = if h : t.val < 32768 then k (ix3 b ⟨t.val, h⟩ e) * s (ix3 b 0 0) else Attend.code (x (ix3 b 0 e)) (s (ix3 b 0 0)) * s (ix3 b 0 0) := by
  have H := codes_at s x b e
  unfold k0_pay8
  generalize k0_pay6 s x = C at H ⊢
  pointwise [k0_pay4]
  split
  · rfl
  · rename_i h
    exact congrArg (fun y : EReal => y * s (ix3 b 0 0)) (Eq.trans (congrArg (fun z : Fin 1 => C (ix3 b z e)) (Subsingleton.elim _ 0)) H)

set_option maxHeartbeats 4000000 in
set_option backward.isDefEq.respectTransparency false in
/-- The attention rows: softmax attention over the keys and the scaled values. -/
theorem y_at (s : FVec Ideal S32x1x1 .f32) (c : FVec Ideal S32x1x256 .fp8e4m3) (k : FVec Ideal S32x32769x256 .bf16) (v : FVec Ideal S32x32768x256 .bf16)
    (q : Vec Ideal S32x8x256 .bf16) (i : Fin 4) (r : Fin 64) (d : Fin 256) (b : Fin 32) (g : Fin 8) (hb : b.val = i.val * 8 + r.val / 8)
    (hg : g.val = r.val % 8) :
    k0_pay1 (F := Ideal) s c k v q (ix3 i r d)
      = Attend.one ((∑ e, q (ix3 b g e) * k (ix3 b (Fin.last 32768) e)) * Attend.sm) (c (ix3 b 0 d) * s (ix3 b 0 0))
          (fun t => (∑ e, q (ix3 b g e) * k (ix3 b t.castSucc e)) * Attend.sm) (fun t => v (ix3 b t d) * s (ix3 b 0 0)) := by
  have hi := i.isLt; have hr := r.isLt
  have ob : i.val * 8 + r.val / 8 < 32 := by omega
  have og : r.val % 8 < 8 := by omega
  obtain rfl : b = ⟨i.val * 8 + r.val / 8, ob⟩ := Fin.ext hb
  obtain rfl : g = ⟨r.val % 8, og⟩ := Fin.ext hg
  pointwise [k0_pay1]
  rw [ofBits_negInf, show (32768 : Fin 32769) = Fin.last 32768 by decide +kernel]
  exact Attend.softmax_split (fun t => (∑ e, q (ix3 ⟨i.val * 8 + r.val / 8, ob⟩ ⟨r.val % 8, og⟩ e) * k (ix3 ⟨i.val * 8 + r.val / 8, ob⟩ t e)) * Ideal.ofBits .f32 1031798784#32)
    (fun t => v (ix3 ⟨i.val * 8 + r.val / 8, ob⟩ t d) * s (ix3 ⟨i.val * 8 + r.val / 8, ob⟩ 0 0)) _

end Cert.ReferenceIdeal.Idx

end
-- ==== Proof.ReferenceVal.lean ====
/- The reference's results, at every index, as functions of its arguments. -/
module

public import proofs.«01_k».proof.Proof.ReferenceIdx
public import proofs.«01_k».proof.Proof.Results

@[expose] public section

set_option maxRecDepth 16384

noncomputable section

namespace Cert.ReferenceIdeal.Idx

open Cert.ReferenceIdeal Cert.ReferenceIdeal.Gen
open Idealize.ShloMosaic Idealize.ShloMosaic.TcCoe Idealize.ShloMosaic.Tactic

set_option backward.isDefEq.respectTransparency false in
/-- The query, grouped by head, at an index. -/
theorem q_at (X : Vec Ideal S4x1x16384 .bf16) (i : Fin 4) (r : Fin 64) (b : Fin 32) (g : Fin 8) (e : Fin 256) (hb : b.val = i.val * 8 + r.val / 8) (hg : g.val = r.val % 8) :
    shapeCast S32x8x256 X shapeCasts_S4x1x16384_S32x8x256 (ix3 b g e) = X (ix3 i 0 (Attend.flat r e)) := by
  have hi := i.isLt; have hr := r.isLt; have he := e.isLt
  pointwise
  refine congrArg X ?_
  congr 1 <;> exact Fin.ext (by simp only [Attend.flat]; omega)

set_option backward.isDefEq.respectTransparency false in
/-- A new row, head by head, at an index. -/
theorem new_at (N : Vec Ideal S4x1x8x256 .bf16) (i : Fin 4) (h : Fin 8) (b : Fin 32) (e : Fin 256) (hb : b.val = i.val * 8 + h.val) :
    shapeCast S32x1x256 (transpose S4x8x1x256 [0, 2, 1, 3] N transposes_S4x1x8x256_S4x8x1x256_0_2_1_3) shapeCasts_S4x8x1x256_S32x1x256 (ix3 b 0 e) = N (ix4 i 0 h e) := by
  have hi := i.isLt; have hh := h.isLt; have he := e.isLt
  pointwise
  refine congrArg N ?_
  congr 1 <;> exact Fin.ext (by simp only; omega)

set_option backward.isDefEq.respectTransparency false in
/-- A scale, batch and head by batch and head, at an index. -/
theorem scale_at (s : Vec Ideal S8 .f32) (i : Fin 4) (h : Fin 8) (b : Fin 32) (hb : b.val = i.val * 8 + h.val) :
    shapeCast S32x1x1 (broadcastInDim S4x8 ![1] bcast_S8_S4x8_1 s) shapeCasts_S4x8_S32x1x1 (ix3 b 0 0) = s (ix1 h) := by
  have hi := i.isLt; have hh := h.isLt
  pointwise
  refine congrArg s ?_
  congr 1 <;> exact Fin.ext (by simp only; omega)

set_option backward.isDefEq.respectTransparency false in
/-- The cached codes, head by head, at an index. -/
theorem cache_at (K : Vec Ideal S4x32768x8x256 .fp8e4m3) (i : Fin 4) (h : Fin 8) (b : Fin 32) (t : Fin 32768) (e : Fin 256) (hb : b.val = i.val * 8 + h.val) :
    shapeCast S32x32768x256 (transpose S4x8x32768x256 [0, 2, 1, 3] K transposes_S4x32768x8x256_S4x8x32768x256_0_2_1_3) shapeCasts_S4x8x32768x256_S32x32768x256 (ix3 b t e)
      = K (ix4 i t h e) := by
  have hi := i.isLt; have hh := h.isLt; have he := e.isLt; have ht := t.isLt
  pointwise
  refine congrArg K ?_
  congr 1 <;> exact Fin.ext (by simp only; omega)

/-- A cast of the scales to their own shape leaves them. -/
theorem pay5_eq (x : Vec Ideal S32x1x1 .f32) : k0_pay5 (F := Ideal) x = x := shapeCast_self _ _

/-- The cached value codes, widened, are themselves. -/
theorem pay9_eq (x : Vec Ideal S32x32768x256 .fp8e4m3) (j : S32x32768x256.Idx) : k0_pay9 (F := Ideal) x j = x j := by
  unfold k0_pay9; rw [shapeCast_self]; rfl

variable (m : (ℓ : Loc nD τ sig) → Buf (Elt Ideal) ℓ) (c : Dev nD)

/-- The attention rows the reference leaves. -/
theorem G7_at (i : Fin 4) (r : Fin 64) (d : Fin 256) : Run.G7 m c (ix3 i r d)
    = Attend.yAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i r d := by
  have hi := i.isLt; have hr := r.isLt
  unfold Run.G7
  rw [Run.V_q, Run.V_kn, Run.V_vn, Run.V_ks, Run.V_vs, Run.V_k, Run.V_v]
  have hb : (⟨i.val * 8 + r.val / 8, by omega⟩ : Fin 32).val = i.val * 8 + r.val / 8 := rfl
  have hg : (⟨r.val % 8, by omega⟩ : Fin 8).val = r.val % 8 := rfl
  have hb' : (⟨i.val * 8 + r.val / 8, by omega⟩ : Fin 32).val = i.val * 8 + (Attend.hd r).val := rfl
  refine (y_at _ _ _ _ _ i r d _ _ hb hg).trans ?_
  unfold Attend.yAt Attend.yOf
  have hq := fun e => q_at (m ((c : Thread nD τ).loc main_arg0)) i r _ _ e hb hg
  have hkn := fun e => new_at (m ((c : Thread nD τ).loc main_arg1)) i (Attend.hd r) _ e hb'
  have hvn := fun e => new_at (m ((c : Thread nD τ).loc main_arg2)) i (Attend.hd r) _ e hb'
  have hks := scale_at (m ((c : Thread nD τ).loc main_arg4)) i (Attend.hd r) _ hb'
  have hvs := scale_at (m ((c : Thread nD τ).loc main_arg6)) i (Attend.hd r) _ hb'
  have hk := fun t e => cache_at (m ((c : Thread nD τ).loc main_arg3)) i (Attend.hd r) _ t e hb'
  have hv := fun t e => cache_at (m ((c : Thread nD τ).loc main_arg5)) i (Attend.hd r) _ t e hb'
  rw [pay5_eq]
  congr 1
  · refine congrArg (fun x : EReal => x * Attend.sm) (Finset.sum_congr rfl fun e _ => ?_)
    rw [hq, keys_at, dif_neg (by simp [Fin.last]), hkn, hks]
  · rw [vcodes_at, hvn, hvs]
  · funext t
    refine congrArg (fun x : EReal => x * Attend.sm) (Finset.sum_congr rfl fun e _ => ?_)
    rw [hq, keys_at, dif_pos (show t.castSucc.val < 32768 from t.isLt), hks]
    exact congrArg _ (congrArg (fun x : EReal => x * _) (hk t e))
  · funext t
    rw [pay9_eq, hv, hvs]

set_option backward.isDefEq.respectTransparency false in
/-- The codes, split by batch, at an index. -/
theorem pay2_at (C : Vec Ideal S32x1x256 .fp8e4m3) (i : Fin 4) (h : Fin 8) (e : Fin 256) (b : Fin 32) (hb : b.val = i.val * 8 + h.val) :
    k0_pay2 (F := Ideal) C (ix3 i h e) = C (ix3 b 0 e) := by
  have hi := i.isLt; have hh := h.isLt; have he := e.isLt
  pointwise [k0_pay2]
  refine congrArg C ?_
  congr 1 <;> exact Fin.ext (by simp only; omega)

set_option backward.isDefEq.respectTransparency false in
/-- The codes, split by batch, at an index. -/
theorem pay3_at (C : Vec Ideal S32x1x256 .fp8e4m3) (i : Fin 4) (h : Fin 8) (e : Fin 256) (b : Fin 32) (hb : b.val = i.val * 8 + h.val) :
    k0_pay3 (F := Ideal) C (ix3 i h e) = C (ix3 b 0 e) := by
  have hi := i.isLt; have hh := h.isLt; have he := e.isLt
  pointwise [k0_pay3]
  refine congrArg C ?_
  congr 1 <;> exact Fin.ext (by simp only; omega)

/-- The new key codes the reference leaves. -/
theorem G8_at (i : Fin 4) (h : Fin 8) (e : Fin 256) : Run.G8 m c (ix3 i h e)
    = Attend.codeAt (m ((c : Thread nD τ).loc main_arg1)) (m ((c : Thread nD τ).loc main_arg4)) i h e := by
  have hi := i.isLt; have hh := h.isLt
  unfold Run.G8
  rw [Run.V_kn, Run.V_ks]
  have hb : (⟨i.val * 8 + h.val, by omega⟩ : Fin 32).val = i.val * 8 + h.val := rfl
  refine (pay2_at _ i h e _ hb).trans ?_
  rw [codes_at, new_at _ i h _ e hb, scale_at _ i h _ hb]
  rfl

/-- The new value codes the reference leaves. -/
theorem G9_at (i : Fin 4) (h : Fin 8) (e : Fin 256) : Run.G9 m c (ix3 i h e)
    = Attend.codeAt (m ((c : Thread nD τ).loc main_arg2)) (m ((c : Thread nD τ).loc main_arg6)) i h e := by
  have hi := i.isLt; have hh := h.isLt
  unfold Run.G9
  rw [Run.V_vn, Run.V_vs]
  have hb : (⟨i.val * 8 + h.val, by omega⟩ : Fin 32).val = i.val * 8 + h.val := rfl
  refine (pay3_at _ i h e _ hb).trans ?_
  rw [vcodes_at, new_at _ i h _ e hb, scale_at _ i h _ hb]
  rfl

end Cert.ReferenceIdeal.Idx

end
-- ==== Proof.Equal.lean ====
/- The kernel's results are the reference's, from equal arguments with scales that are neither negative nor infinite. -/
module

public import proofs.«01_k».proof.Defs
public import proofs.«01_k».proof.Proof.Gen.Pre_scales_nonneg
public import proofs.«01_k».proof.Proof.KernelVal
public import proofs.«01_k».proof.Proof.ReferenceVal
public import Idealize.ShloMosaic.Lib.ReduceAll

@[expose] public section

set_option maxRecDepth 16384

noncomputable section

namespace Cert.Equal

open Idealize.ShloMosaic Idealize.ShloMosaic.TcCoe Idealize.ShloMosaic.Tactic Idealize.SL.Sem

/-- The word of infinity. -/
theorem ofBits_inf : Ideal.ofBits .f32 0x7F800000#32 = ⊤ := by simp [Ideal.ofBits, Ideal.ieee]

/-- A number that compares at least zero and below infinity is neither negative nor infinite. -/
theorem ok_of (x : EReal) (h : IntOp.andi (Ideal.cmp .oge x (Ideal.ofBits .f32 0x00000000#32)) (Ideal.cmp .olt x (Ideal.ofBits .f32 0x7F800000#32)) = 1#1) :
    0 ≤ x ∧ x ≠ ⊤ := by
  rw [ofBits_inf, Ideal.ofBits_zero_f32, IntOp.andi_eq_one] at h
  obtain ⟨h1, h2⟩ := h
  constructor
  · by_contra hx
    simp [Ideal.cmp, hx] at h1
  · rintro rfl
    simp [Ideal.cmp] at h2

/-- A scalar has one index. -/
instance : Subsingleton Cert.Pre_scales_nonneg.S_.Idx := ⟨fun _ _ => funext fun a => a.elim0⟩

/-- What the precondition says of one device's scales. -/
theorem scales_ok (m : (ℓ : Loc Cert.KernelIdeal.nD Cert.KernelIdeal.τ Cert.KernelIdeal.sig) → Buf (Elt Ideal) ℓ) (hm : Cert.Pre_KernelIdeal_scales_nonneg m)
    (c : Dev Cert.KernelIdeal.nD) :
    (∀ h : Fin 8, 0 ≤ KernelIdeal.Run.aKS m c (ix1 h) ∧ KernelIdeal.Run.aKS m c (ix1 h) ≠ ⊤)
      ∧ (∀ h : Fin 8, 0 ≤ KernelIdeal.Run.aVS m c (ix1 h) ∧ KernelIdeal.Run.aVS m c (ix1 h) ≠ ⊤) := by
  have H := congrFun (hm c) (fun a => a.elim0)
  obtain ⟨h1, h2⟩ := IntOp.andi_eq_one.1 H
  exact ⟨fun h => ok_of _ (Host.reduce_andi_all _ _ _ _ _ h1 (ix1 h)), fun h => ok_of _ (Host.reduce_andi_all _ _ _ _ _ h2 (ix1 h))⟩

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hm : Cert.Pre_KernelIdeal_scales_nonneg m)
  (c : Dev Cert.KernelIdeal.nD)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include hm a0 a1 a2 a3 a4 a5 a6 in
/-- The attention rows agree. -/
theorem rows : (Cert.ReferenceIdeal.Run.G7 m' c : Vec Ideal Cert.KernelIdeal.S4x64x256 .bf16) = Cert.KernelIdeal.Run.G7 m c := by
  obtain ⟨h1, h2⟩ := scales_ok m hm c
  funext j
  obtain ⟨i, r, d, rfl⟩ : ∃ i r d, j = ix3 i r d := ⟨_, _, _, eq_ix3 j⟩
  refine (Cert.ReferenceIdeal.Idx.G7_at m' c i r d).trans ?_
  rw [a0, a1, a2, a3, a4, a5, a6]
  exact (Cert.KernelIdeal.Run.G7_at m c h1 h2 i r d).symm

include a1 a4 in
/-- The new key codes agree. -/
theorem keys : (Cert.ReferenceIdeal.Run.G8 m' c : Vec Ideal Cert.KernelIdeal.S4x8x256 .fp8e4m3) = Cert.KernelIdeal.Run.G8 m c := by
  funext j
  obtain ⟨i, r, d, rfl⟩ : ∃ i r d, j = ix3 i r d := ⟨_, _, _, eq_ix3 j⟩
  refine (Cert.ReferenceIdeal.Idx.G8_at m' c i r d).trans ?_
  rw [a1, a4]
  exact (Cert.KernelIdeal.Run.G8_at m c i r d).symm

include a2 a6 in
/-- The new value codes agree. -/
theorem values : (Cert.ReferenceIdeal.Run.G9 m' c : Vec Ideal Cert.KernelIdeal.S4x8x256 .fp8e4m3) = Cert.KernelIdeal.Run.G9 m c := by
  funext j
  obtain ⟨i, r, d, rfl⟩ : ∃ i r d, j = ix3 i r d := ⟨_, _, _, eq_ix3 j⟩
  refine (Cert.ReferenceIdeal.Idx.G9_at m' c i r d).trans ?_
  rw [a2, a6]
  exact (Cert.KernelIdeal.Run.G9_at m c i r d).symm

end

/-- The two programs leave equal results. -/
theorem algebraic : Cert.algebraic_KernelIdeal_ReferenceIdeal_pre_scales_nonneg := by
  intro m g m' g' hm ha
  refine ⟨fun c => Cert.KernelIdeal.Run.G7 m c, fun c => Cert.KernelIdeal.Run.G8 m c, fun c => m ((c.tc : Thread Cert.KernelIdeal.nD Cert.KernelIdeal.τ).loc Cert.KernelIdeal.main_arg4),
    fun c => Cert.KernelIdeal.Run.G9 m c, fun c => m ((c.tc : Thread Cert.KernelIdeal.nD Cert.KernelIdeal.τ).loc Cert.KernelIdeal.main_arg6), ?_, ?_⟩
  · refine θ_run_mono (Cert.KernelIdeal.Run.run m g) (fun r h c => ?_)
    obtain ⟨h7, h8, h9, k0, k1, k2, k3, k4, k5, k6⟩ := h c
    exact ⟨h7, h8, k4, h9, k6, k0, k1, k2, k3, k4, k5, k6⟩
  · refine θ_run_mono (Cert.ReferenceIdeal.Run.run m' g') (fun r h c => ?_)
    obtain ⟨h7, h8, h9, k0, k1, k2, k3, k4, k5, k6⟩ := h c
    obtain ⟨a0, a1, a2, a3, a4, a5, a6⟩ := ha c
    exact ⟨h7.trans (rows m m' hm c a0 a1 a2 a3 a4 a5 a6), h8.trans (keys m m' c a1 a4), k4.trans a4, h9.trans (values m m' c a2 a6), k6.trans a6,
      k0, k1, k2, k3, k4, k5, k6⟩

end Cert.Equal

end
-- ==== Proof.lean ====
/- The claims: the kernel, its idealization and the reference run, keep their arguments and end with every semaphore at zero;
   the idealization is the kernel; and from equal arguments, with scales neither negative nor infinite, the kernel's five results
   are the reference's. Each is proved in a module of its own and put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg
public import proofs.«01_k».proof.Proof.BitsFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_scales_nonneg.Gen.facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g, trivial, Cert.Equal.algebraic⟩

end Cert.Proof

end
